-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S4096x20x13 : Shape := ⟨3, ![4096, 20, 13]⟩
abbrev S4096x20x26 : Shape := ⟨3, ![4096, 20, 26]⟩
abbrev S26x100000x16 : Shape := ⟨3, ![26, 100000, 16]⟩
abbrev S_ : Shape := ⟨0, ![]⟩

class Facts : Prop where
  bcast_S_S4096x20x26 : S_.BroadcastsInDim S4096x20x26 (![] : Fin 0 → Fin S4096x20x26.rank)
  reducesTo_S4096x20x26_S_d0_1_2 : S4096x20x26.ReducesTo [0, 1, 2] S_
  h_S_ : 0 < S_.numel

variable [Facts]

def fn {F : FTy → Type} [FloatOps F] (main_arg0 : FVec F S4096x20x13 .f32) (main_arg1 : IVec S4096x20x26 32) (main_arg2 : FVec F S26x100000x16 .f32) : IVec S_ 1 :=
  let main_c : IVec S_ 32 := constantI S_ 32 0#32
  let main_v0 : IVec S4096x20x26 32 := broadcastInDim S4096x20x26 ![] bcast_S_S4096x20x26 main_c
  let main_v1 : IVec S4096x20x26 1 := cmpi .sge main_arg1 main_v0
  let main_c_0 : IVec S_ 32 := constantI S_ 32 100000#32
  let main_v2 : IVec S4096x20x26 32 := broadcastInDim S4096x20x26 ![] bcast_S_S4096x20x26 main_c_0
  let main_v3 : IVec S4096x20x26 1 := cmpi .slt main_arg1 main_v2
  let main_v4 : IVec S4096x20x26 1 := andi main_v1 main_v3
  let main_c_1 : IVec S_ 1 := constantI S_ 1 1#1
  let main_v5 : IVec S_ 1 := (fun x v => Host.reduce IntOp.andi x v reducesTo_S4096x20x26_S_d0_1_2 h_S_) main_v4 main_c_1
  main_v5
-- ==== Kernel.lean ====
abbrev S4096x20x13 : Shape := ⟨3, ![4096, 20, 13]⟩
abbrev S4096x20x26 : Shape := ⟨3, ![4096, 20, 26]⟩
abbrev S26x100000x16 : Shape := ⟨3, ![26, 100000, 16]⟩
abbrev S2600000x16 : Shape := ⟨2, ![2600000, 16]⟩
abbrev S2129920 : Shape := ⟨1, ![2129920]⟩
abbrev S1064960 : Shape := ⟨1, ![1064960]⟩
abbrev S35143680 : Shape := ⟨1, ![35143680]⟩
abbrev S3328 : Shape := ⟨1, ![3328]⟩
abbrev S26x128 : Shape := ⟨2, ![26, 128]⟩
abbrev S3328x16 : Shape := ⟨2, ![3328, 16]⟩
abbrev S1680 : Shape := ⟨1, ![1680]⟩
abbrev S54912 : Shape := ⟨1, ![54912]⟩
abbrev S_ : Shape := ⟨0, ![]⟩
abbrev S16 : Shape := ⟨1, ![16]⟩
abbrev S1664 : Shape := ⟨1, ![1664]⟩
abbrev S1x16 : Shape := ⟨2, ![1, 16]⟩
abbrev S128x16 : Shape := ⟨2, ![128, 16]⟩
abbrev S1x128 : Shape := ⟨2, ![1, 128]⟩
abbrev S128 : Shape := ⟨1, ![128]⟩
abbrev S4096x20x429 : Shape := ⟨3, ![4096, 20, 429]⟩

abbrev nBuf : Table → Nat
  | .hbm => 8
  | .local .scVector .vmem => 5
  | _ => 0

abbrev bufTy : (tb : Table) → Fin (nBuf tb) → BufTy
  | .hbm, ⟨0, _⟩ => ⟨S4096x20x13, .f32⟩
  | .hbm, ⟨1, _⟩ => ⟨S4096x20x26, .i32⟩
  | .hbm, ⟨2, _⟩ => ⟨S26x100000x16, .f32⟩
  | .hbm, ⟨3, _⟩ => ⟨S2600000x16, .f32⟩
  | .hbm, ⟨4, _⟩ => ⟨S2129920, .i32⟩
  | .hbm, ⟨5, _⟩ => ⟨S1064960, .f32⟩
  | .hbm, ⟨6, _⟩ => ⟨S35143680, .f32⟩
  | .hbm, ⟨7, _⟩ => ⟨S4096x20x429, .f32⟩
  | .local .scVector .vmem, ⟨0, _⟩ => ⟨S3328, .i32⟩
  | .local .scVector .vmem, ⟨1, _⟩ => ⟨S26x128, .i32⟩
  | .local .scVector .vmem, ⟨2, _⟩ => ⟨S3328x16, .f32⟩
  | .local .scVector .vmem, ⟨3, _⟩ => ⟨S1680, .f32⟩
  | .local .scVector .vmem, ⟨4, _⟩ => ⟨S54912, .f32⟩
  | _, _ => ⟨S4096x20x13, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c20_i32 : BitVec 32 := 20#32
  let v6 : BitVec 32 := Scalar.addi c0_i32_0 c20_i32
  let c1_i32 : BitVec 32 := 1#32
  ⟨c0_i32_0, v6, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_0 : BitVec 32 := 0#32
  let c1_i32 : BitVec 32 := 1#32
  let arg12 : BitVec 32 := Scf.iv c0_i32_0 c1_i32 k0_t1
  let c128_i32 : BitVec 32 := 128#32
  let v7 : BitVec 32 := Scalar.muli arg12 c128_i32
  let v8 : BitVec 32 := Scalar.addi v2 v7
  let c26_i32 : BitVec 32 := 26#32
  let v9 : BitVec 32 := Scalar.muli v8 c26_i32
  ![v9.toNat]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_0 : BitVec 32 := 0#32
  let c1_i32 : BitVec 32 := 1#32
  let arg12 : BitVec 32 := Scf.iv c0_i32_0 c1_i32 k0_t1
  let c128_i32 : BitVec 32 := 128#32
  let v7 : BitVec 32 := Scalar.muli arg12 c128_i32
  let v8 : BitVec 32 := Scalar.addi v2 v7
  let c13_i32_2 : BitVec 32 := 13#32
  let v10 : BitVec 32 := Scalar.muli v8 c13_i32_2
  ![v10.toNat]
@[reducible] def k0_t2_loop : Scf.Loop 32 :=
  let c0_i32_4 : BitVec 32 := 0#32
  let c208_i32 : BitVec 32 := 208#32
  let v11 : BitVec 32 := Scalar.addi c0_i32_4 c208_i32
  let c1_i32_5 : BitVec 32 := 1#32
  ⟨c0_i32_4, v11, c1_i32_5⟩
def k0_off3 (k0_t2 : Fin k0_t2_loop.trips) : Fin 1 → Nat :=
  let c0_i32_4 : BitVec 32 := 0#32
  let c1_i32_5 : BitVec 32 := 1#32
  let arg13 : BitVec 32 := Scf.iv c0_i32_4 c1_i32_5 k0_t2
  let c16_i32_280 : BitVec 32 := 16#32
  let v222 : BitVec 32 := Scalar.muli arg13 c16_i32_280
  let v243 : Index := Scalar.indexCast v222
  ![v243.toNat]
def k0_off4 (k0_t2 : Fin k0_t2_loop.trips) : Fin 2 → Nat :=
  let c0_i32_4 : BitVec 32 := 0#32
  let c1_i32_5 : BitVec 32 := 1#32
  let arg13 : BitVec 32 := Scf.iv c0_i32_4 c1_i32_5 k0_t2
  let c0_i32_288 : BitVec 32 := 0#32
  let v247 : BitVec 1 := Scalar.cmpi .sgt arg13 c0_i32_288
  let v248 : BitVec 32 := Scalar.extui v247
  let c0_i32_289 : BitVec 32 := 0#32
  let v249 : BitVec 1 := Scalar.cmpi .slt arg13 c0_i32_289
  let v250 : BitVec 32 := Scalar.extui v249
  let v251 : BitVec 32 := Scalar.subi v248 v250
  let c8_i32_287 : BitVec 32 := 8#32
  let c0_i32_290 : BitVec 32 := 0#32
  let v252 : BitVec 1 := Scalar.cmpi .sgt c8_i32_287 c0_i32_290
  let v253 : BitVec 32 := Scalar.extui v252
  let c0_i32_291 : BitVec 32 := 0#32
  let v254 : BitVec 1 := Scalar.cmpi .slt c8_i32_287 c0_i32_291
  let v255 : BitVec 32 := Scalar.extui v254
  let v256 : BitVec 32 := Scalar.subi v253 v255
  let v257 : BitVec 1 := Scalar.cmpi .ne v251 v256
  let v258 : BitVec 32 := Scalar.remsi arg13 c8_i32_287
  let c0_i32_292 : BitVec 32 := 0#32
  let v259 : BitVec 1 := Scalar.cmpi .ne v258 c0_i32_292
  let v260 : BitVec 1 := Scalar.andi v257 v259
  let v246 : BitVec 32 := Scalar.divsi arg13 c8_i32_287
  let c1_i32_293 : BitVec 32 := 1#32
  let v261 : BitVec 32 := Scalar.subi v246 c1_i32_293
  let v262 : BitVec 32 := Scalar.select v260 v261 v246
  let v274 : Index := Scalar.indexCast v262
  let c8_i32_294 : BitVec 32 := 8#32
  let c0_i32_295 : BitVec 32 := 0#32
  let v263 : BitVec 1 := Scalar.cmpi .eq c8_i32_294 c0_i32_295
  let c1_i32_296 : BitVec 32 := 1#32
  let v264 : BitVec 32 := Scalar.select v263 c1_i32_296 c8_i32_294
  let v265 : BitVec 32 := Scalar.remsi arg13 v264
  let c0_i32_298 : BitVec 32 := 0#32
  let v267 : BitVec 1 := Scalar.cmpi .slt v265 c0_i32_298
  let c0_i32_299 : BitVec 32 := 0#32
  let v268 : BitVec 1 := Scalar.cmpi .slt v264 c0_i32_299
  let v269 : BitVec 1 := Scalar.xori v267 v268
  let c0_i32_297 : BitVec 32 := 0#32
  let v266 : BitVec 1 := Scalar.cmpi .ne v265 c0_i32_297
  let v270 : BitVec 1 := Scalar.andi v269 v266
  let v271 : BitVec 32 := Scalar.addi v265 v264
  let v272 : BitVec 32 := Scalar.select v270 v271 v265
  let c16_i32_300 : BitVec 32 := 16#32
  let v273 : BitVec 32 := Scalar.muli v272 c16_i32_300
  let v275 : Index := Scalar.indexCast v273
  ![v274.toNat, v275.toNat]
@[reducible] def k0_t3_loop : Scf.Loop 32 :=
  let c0_i32_276 : BitVec 32 := 0#32
  let c128_i32_277 : BitVec 32 := 128#32
  let v220 : BitVec 32 := Scalar.addi c0_i32_276 c128_i32_277
  let c1_i32_278 : BitVec 32 := 1#32
  ⟨c0_i32_276, v220, c1_i32_278⟩
def k0_off5 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c0_i32_282 : BitVec 32 := 0#32
  let v224 : BitVec 32 := Scalar.addi v223 c0_i32_282
  let v225 : Index := Scalar.indexCast v224
  let c0 : Index := 0#32
  ![v225.toNat, 0]

def k0_chk1 (v229 : IVec S16 32) : Prop :=
  (∀ a x, ((![v229] : Fin 1 → IVec S16 32) a x).toNat < S54912.size a)
theorem k0_idx1_inb : ∀ (v229 : IVec S16 32) (k0_hw1 : k0_chk1 v229), ∀ a x, ((![v229] : Fin 1 → IVec S16 32) a x).toNat < S54912.size a := fun v229 k0_hw1 => k0_hw1
def k0_off6 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c1_i32_284 : BitVec 32 := 1#32
  let v230 : BitVec 32 := Scalar.addi v223 c1_i32_284
  let v231 : Index := Scalar.indexCast v230
  let c0_285 : Index := 0#32
  ![v231.toNat, 0]

def k0_chk2 (v235 : IVec S16 32) : Prop :=
  (∀ a x, ((![v235] : Fin 1 → IVec S16 32) a x).toNat < S54912.size a)
theorem k0_idx2_inb : ∀ (v235 : IVec S16 32) (k0_hw2 : k0_chk2 v235), ∀ a x, ((![v235] : Fin 1 → IVec S16 32) a x).toNat < S54912.size a := fun v235 k0_hw2 => k0_hw2
def k0_off7 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c2_i32_287 : BitVec 32 := 2#32
  let v236 : BitVec 32 := Scalar.addi v223 c2_i32_287
  let v237 : Index := Scalar.indexCast v236
  let c0_288 : Index := 0#32
  ![v237.toNat, 0]

def k0_chk3 (v241 : IVec S16 32) : Prop :=
  (∀ a x, ((![v241] : Fin 1 → IVec S16 32) a x).toNat < S54912.size a)
theorem k0_idx3_inb : ∀ (v241 : IVec S16 32) (k0_hw3 : k0_chk3 v241), ∀ a x, ((![v241] : Fin 1 → IVec S16 32) a x).toNat < S54912.size a := fun v241 k0_hw3 => k0_hw3
def k0_off8 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c3_i32_289 : BitVec 32 := 3#32
  let v242 : BitVec 32 := Scalar.addi v223 c3_i32_289
  let v243 : Index := Scalar.indexCast v242
  let c0_290 : Index := 0#32
  ![v243.toNat, 0]

def k0_chk4 (v247 : IVec S16 32) : Prop :=
  (∀ a x, ((![v247] : Fin 1 → IVec S16 32) a x).toNat < S54912.size a)
theorem k0_idx4_inb : ∀ (v247 : IVec S16 32) (k0_hw4 : k0_chk4 v247), ∀ a x, ((![v247] : Fin 1 → IVec S16 32) a x).toNat < S54912.size a := fun v247 k0_hw4 => k0_hw4
def k0_off9 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c4_i32_291 : BitVec 32 := 4#32
  let v248 : BitVec 32 := Scalar.addi v223 c4_i32_291
  let v249 : Index := Scalar.indexCast v248
  let c0_292 : Index := 0#32
  ![v249.toNat, 0]

def k0_chk5 (v253 : IVec S16 32) : Prop :=
  (∀ a x, ((![v253] : Fin 1 → IVec S16 32) a x).toNat < S54912.size a)
theorem k0_idx5_inb : ∀ (v253 : IVec S16 32) (k0_hw5 : k0_chk5 v253), ∀ a x, ((![v253] : Fin 1 → IVec S16 32) a x).toNat < S54912.size a := fun v253 k0_hw5 => k0_hw5
def k0_off10 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c5_i32_293 : BitVec 32 := 5#32
  let v254 : BitVec 32 := Scalar.addi v223 c5_i32_293
  let v255 : Index := Scalar.indexCast v254
  let c0_294 : Index := 0#32
  ![v255.toNat, 0]

def k0_chk6 (v259 : IVec S16 32) : Prop :=
  (∀ a x, ((![v259] : Fin 1 → IVec S16 32) a x).toNat < S54912.size a)
theorem k0_idx6_inb : ∀ (v259 : IVec S16 32) (k0_hw6 : k0_chk6 v259), ∀ a x, ((![v259] : Fin 1 → IVec S16 32) a x).toNat < S54912.size a := fun v259 k0_hw6 => k0_hw6
def k0_off11 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c6_i32_295 : BitVec 32 := 6#32
  let v260 : BitVec 32 := Scalar.addi v223 c6_i32_295
  let v261 : Index := Scalar.indexCast v260
  let c0_296 : Index := 0#32
  ![v261.toNat, 0]

def k0_chk7 (v265 : IVec S16 32) : Prop :=
  (∀ a x, ((![v265] : Fin 1 → IVec S16 32) a x).toNat < S54912.size a)
theorem k0_idx7_inb : ∀ (v265 : IVec S16 32) (k0_hw7 : k0_chk7 v265), ∀ a x, ((![v265] : Fin 1 → IVec S16 32) a x).toNat < S54912.size a := fun v265 k0_hw7 => k0_hw7
def k0_off12 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c7_i32_297 : BitVec 32 := 7#32
  let v266 : BitVec 32 := Scalar.addi v223 c7_i32_297
  let v267 : Index := Scalar.indexCast v266
  let c0_298 : Index := 0#32
  ![v267.toNat, 0]

def k0_chk8 (v271 : IVec S16 32) : Prop :=
  (∀ a x, ((![v271] : Fin 1 → IVec S16 32) a x).toNat < S54912.size a)
theorem k0_idx8_inb : ∀ (v271 : IVec S16 32) (k0_hw8 : k0_chk8 v271), ∀ a x, ((![v271] : Fin 1 → IVec S16 32) a x).toNat < S54912.size a := fun v271 k0_hw8 => k0_hw8
def k0_off13 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c8_i32_299 : BitVec 32 := 8#32
  let v272 : BitVec 32 := Scalar.addi v223 c8_i32_299
  let v273 : Index := Scalar.indexCast v272
  let c0_300 : Index := 0#32
  ![v273.toNat, 0]

def k0_chk9 (v277 : IVec S16 32) : Prop :=
  (∀ a x, ((![v277] : Fin 1 → IVec S16 32) a x).toNat < S54912.size a)
theorem k0_idx9_inb : ∀ (v277 : IVec S16 32) (k0_hw9 : k0_chk9 v277), ∀ a x, ((![v277] : Fin 1 → IVec S16 32) a x).toNat < S54912.size a := fun v277 k0_hw9 => k0_hw9
def k0_off14 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c9_i32_302 : BitVec 32 := 9#32
  let v278 : BitVec 32 := Scalar.addi v223 c9_i32_302
  let v279 : Index := Scalar.indexCast v278
  let c0_303 : Index := 0#32
  ![v279.toNat, 0]

def k0_chk10 (v283 : IVec S16 32) : Prop :=
  (∀ a x, ((![v283] : Fin 1 → IVec S16 32) a x).toNat < S54912.size a)
theorem k0_idx10_inb : ∀ (v283 : IVec S16 32) (k0_hw10 : k0_chk10 v283), ∀ a x, ((![v283] : Fin 1 → IVec S16 32) a x).toNat < S54912.size a := fun v283 k0_hw10 => k0_hw10
def k0_off15 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c10_i32_304 : BitVec 32 := 10#32
  let v284 : BitVec 32 := Scalar.addi v223 c10_i32_304
  let v285 : Index := Scalar.indexCast v284
  let c0_305 : Index := 0#32
  ![v285.toNat, 0]

def k0_chk11 (v289 : IVec S16 32) : Prop :=
  (∀ a x, ((![v289] : Fin 1 → IVec S16 32) a x).toNat < S54912.size a)
theorem k0_idx11_inb : ∀ (v289 : IVec S16 32) (k0_hw11 : k0_chk11 v289), ∀ a x, ((![v289] : Fin 1 → IVec S16 32) a x).toNat < S54912.size a := fun v289 k0_hw11 => k0_hw11
def k0_off16 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c11_i32_306 : BitVec 32 := 11#32
  let v290 : BitVec 32 := Scalar.addi v223 c11_i32_306
  let v291 : Index := Scalar.indexCast v290
  let c0_307 : Index := 0#32
  ![v291.toNat, 0]

def k0_chk12 (v295 : IVec S16 32) : Prop :=
  (∀ a x, ((![v295] : Fin 1 → IVec S16 32) a x).toNat < S54912.size a)
theorem k0_idx12_inb : ∀ (v295 : IVec S16 32) (k0_hw12 : k0_chk12 v295), ∀ a x, ((![v295] : Fin 1 → IVec S16 32) a x).toNat < S54912.size a := fun v295 k0_hw12 => k0_hw12
def k0_off17 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c12_i32_308 : BitVec 32 := 12#32
  let v296 : BitVec 32 := Scalar.addi v223 c12_i32_308
  let v297 : Index := Scalar.indexCast v296
  let c0_309 : Index := 0#32
  ![v297.toNat, 0]

def k0_chk13 (v301 : IVec S16 32) : Prop :=
  (∀ a x, ((![v301] : Fin 1 → IVec S16 32) a x).toNat < S54912.size a)
theorem k0_idx13_inb : ∀ (v301 : IVec S16 32) (k0_hw13 : k0_chk13 v301), ∀ a x, ((![v301] : Fin 1 → IVec S16 32) a x).toNat < S54912.size a := fun v301 k0_hw13 => k0_hw13
def k0_off18 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c13_i32_310 : BitVec 32 := 13#32
  let v302 : BitVec 32 := Scalar.addi v223 c13_i32_310
  let v303 : Index := Scalar.indexCast v302
  let c0_311 : Index := 0#32
  ![v303.toNat, 0]

def k0_chk14 (v307 : IVec S16 32) : Prop :=
  (∀ a x, ((![v307] : Fin 1 → IVec S16 32) a x).toNat < S54912.size a)
theorem k0_idx14_inb : ∀ (v307 : IVec S16 32) (k0_hw14 : k0_chk14 v307), ∀ a x, ((![v307] : Fin 1 → IVec S16 32) a x).toNat < S54912.size a := fun v307 k0_hw14 => k0_hw14
def k0_off19 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c14_i32_313 : BitVec 32 := 14#32
  let v308 : BitVec 32 := Scalar.addi v223 c14_i32_313
  let v309 : Index := Scalar.indexCast v308
  let c0_314 : Index := 0#32
  ![v309.toNat, 0]

def k0_chk15 (v313 : IVec S16 32) : Prop :=
  (∀ a x, ((![v313] : Fin 1 → IVec S16 32) a x).toNat < S54912.size a)
theorem k0_idx15_inb : ∀ (v313 : IVec S16 32) (k0_hw15 : k0_chk15 v313), ∀ a x, ((![v313] : Fin 1 → IVec S16 32) a x).toNat < S54912.size a := fun v313 k0_hw15 => k0_hw15
def k0_off20 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c15_i32_315 : BitVec 32 := 15#32
  let v314 : BitVec 32 := Scalar.addi v223 c15_i32_315
  let v315 : Index := Scalar.indexCast v314
  let c0_316 : Index := 0#32
  ![v315.toNat, 0]

def k0_chk16 (v319 : IVec S16 32) : Prop :=
  (∀ a x, ((![v319] : Fin 1 → IVec S16 32) a x).toNat < S54912.size a)
theorem k0_idx16_inb : ∀ (v319 : IVec S16 32) (k0_hw16 : k0_chk16 v319), ∀ a x, ((![v319] : Fin 1 → IVec S16 32) a x).toNat < S54912.size a := fun v319 k0_hw16 => k0_hw16
def k0_off21 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c16_i32_317 : BitVec 32 := 16#32
  let v320 : BitVec 32 := Scalar.addi v223 c16_i32_317
  let v321 : Index := Scalar.indexCast v320
  let c0_318 : Index := 0#32
  ![v321.toNat, 0]

def k0_chk17 (v325 : IVec S16 32) : Prop :=
  (∀ a x, ((![v325] : Fin 1 → IVec S16 32) a x).toNat < S54912.size a)
theorem k0_idx17_inb : ∀ (v325 : IVec S16 32) (k0_hw17 : k0_chk17 v325), ∀ a x, ((![v325] : Fin 1 → IVec S16 32) a x).toNat < S54912.size a := fun v325 k0_hw17 => k0_hw17
def k0_off22 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c17_i32_320 : BitVec 32 := 17#32
  let v326 : BitVec 32 := Scalar.addi v223 c17_i32_320
  let v327 : Index := Scalar.indexCast v326
  let c0_321 : Index := 0#32
  ![v327.toNat, 0]

def k0_chk18 (v331 : IVec S16 32) : Prop :=
  (∀ a x, ((![v331] : Fin 1 → IVec S16 32) a x).toNat < S54912.size a)
theorem k0_idx18_inb : ∀ (v331 : IVec S16 32) (k0_hw18 : k0_chk18 v331), ∀ a x, ((![v331] : Fin 1 → IVec S16 32) a x).toNat < S54912.size a := fun v331 k0_hw18 => k0_hw18
def k0_off23 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c18_i32_322 : BitVec 32 := 18#32
  let v332 : BitVec 32 := Scalar.addi v223 c18_i32_322
  let v333 : Index := Scalar.indexCast v332
  let c0_323 : Index := 0#32
  ![v333.toNat, 0]

def k0_chk19 (v337 : IVec S16 32) : Prop :=
  (∀ a x, ((![v337] : Fin 1 → IVec S16 32) a x).toNat < S54912.size a)
theorem k0_idx19_inb : ∀ (v337 : IVec S16 32) (k0_hw19 : k0_chk19 v337), ∀ a x, ((![v337] : Fin 1 → IVec S16 32) a x).toNat < S54912.size a := fun v337 k0_hw19 => k0_hw19
def k0_off24 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c19_i32_324 : BitVec 32 := 19#32
  let v338 : BitVec 32 := Scalar.addi v223 c19_i32_324
  let v339 : Index := Scalar.indexCast v338
  let c0_325 : Index := 0#32
  ![v339.toNat, 0]

def k0_chk20 (v343 : IVec S16 32) : Prop :=
  (∀ a x, ((![v343] : Fin 1 → IVec S16 32) a x).toNat < S54912.size a)
theorem k0_idx20_inb : ∀ (v343 : IVec S16 32) (k0_hw20 : k0_chk20 v343), ∀ a x, ((![v343] : Fin 1 → IVec S16 32) a x).toNat < S54912.size a := fun v343 k0_hw20 => k0_hw20
def k0_off25 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c20_i32_326 : BitVec 32 := 20#32
  let v344 : BitVec 32 := Scalar.addi v223 c20_i32_326
  let v345 : Index := Scalar.indexCast v344
  let c0_327 : Index := 0#32
  ![v345.toNat, 0]

def k0_chk21 (v349 : IVec S16 32) : Prop :=
  (∀ a x, ((![v349] : Fin 1 → IVec S16 32) a x).toNat < S54912.size a)
theorem k0_idx21_inb : ∀ (v349 : IVec S16 32) (k0_hw21 : k0_chk21 v349), ∀ a x, ((![v349] : Fin 1 → IVec S16 32) a x).toNat < S54912.size a := fun v349 k0_hw21 => k0_hw21
def k0_off26 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c21_i32_328 : BitVec 32 := 21#32
  let v350 : BitVec 32 := Scalar.addi v223 c21_i32_328
  let v351 : Index := Scalar.indexCast v350
  let c0_329 : Index := 0#32
  ![v351.toNat, 0]

def k0_chk22 (v355 : IVec S16 32) : Prop :=
  (∀ a x, ((![v355] : Fin 1 → IVec S16 32) a x).toNat < S54912.size a)
theorem k0_idx22_inb : ∀ (v355 : IVec S16 32) (k0_hw22 : k0_chk22 v355), ∀ a x, ((![v355] : Fin 1 → IVec S16 32) a x).toNat < S54912.size a := fun v355 k0_hw22 => k0_hw22
def k0_off27 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c22_i32_330 : BitVec 32 := 22#32
  let v356 : BitVec 32 := Scalar.addi v223 c22_i32_330
  let v357 : Index := Scalar.indexCast v356
  let c0_331 : Index := 0#32
  ![v357.toNat, 0]

def k0_chk23 (v361 : IVec S16 32) : Prop :=
  (∀ a x, ((![v361] : Fin 1 → IVec S16 32) a x).toNat < S54912.size a)
theorem k0_idx23_inb : ∀ (v361 : IVec S16 32) (k0_hw23 : k0_chk23 v361), ∀ a x, ((![v361] : Fin 1 → IVec S16 32) a x).toNat < S54912.size a := fun v361 k0_hw23 => k0_hw23
def k0_off28 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c23_i32_332 : BitVec 32 := 23#32
  let v362 : BitVec 32 := Scalar.addi v223 c23_i32_332
  let v363 : Index := Scalar.indexCast v362
  let c0_333 : Index := 0#32
  ![v363.toNat, 0]

def k0_chk24 (v367 : IVec S16 32) : Prop :=
  (∀ a x, ((![v367] : Fin 1 → IVec S16 32) a x).toNat < S54912.size a)
theorem k0_idx24_inb : ∀ (v367 : IVec S16 32) (k0_hw24 : k0_chk24 v367), ∀ a x, ((![v367] : Fin 1 → IVec S16 32) a x).toNat < S54912.size a := fun v367 k0_hw24 => k0_hw24
def k0_off29 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c24_i32_334 : BitVec 32 := 24#32
  let v368 : BitVec 32 := Scalar.addi v223 c24_i32_334
  let v369 : Index := Scalar.indexCast v368
  let c0_335 : Index := 0#32
  ![v369.toNat, 0]

def k0_chk25 (v373 : IVec S16 32) : Prop :=
  (∀ a x, ((![v373] : Fin 1 → IVec S16 32) a x).toNat < S54912.size a)
theorem k0_idx25_inb : ∀ (v373 : IVec S16 32) (k0_hw25 : k0_chk25 v373), ∀ a x, ((![v373] : Fin 1 → IVec S16 32) a x).toNat < S54912.size a := fun v373 k0_hw25 => k0_hw25
def k0_off30 (k0_t3 : Fin k0_t3_loop.trips) : Fin 2 → Nat :=
  let c0_i32_276 : BitVec 32 := 0#32
  let c1_i32_278 : BitVec 32 := 1#32
  let arg13 : BitVec 32 := Scf.iv c0_i32_276 c1_i32_278 k0_t3
  let c26_i32_281 : BitVec 32 := 26#32
  let v223 : BitVec 32 := Scalar.muli arg13 c26_i32_281
  let c25_i32_337 : BitVec 32 := 25#32
  let v374 : BitVec 32 := Scalar.addi v223 c25_i32_337
  let v375 : Index := Scalar.indexCast v374
  let c0_338 : Index := 0#32
  ![v375.toNat, 0]

def k0_chk26 (v379 : IVec S16 32) : Prop :=
  (∀ a x, ((![v379] : Fin 1 → IVec S16 32) a x).toNat < S54912.size a)
theorem k0_idx26_inb : ∀ (v379 : IVec S16 32) (k0_hw26 : k0_chk26 v379), ∀ a x, ((![v379] : Fin 1 → IVec S16 32) a x).toNat < S54912.size a := fun v379 k0_hw26 => k0_hw26

def k0_chk27 (v382 : IVec S16 32) : Prop :=
  (∀ a x, ((![v382] : Fin 1 → IVec S16 32) a x).toNat < S1680.size a)
theorem k0_idx27_inb : ∀ (v382 : IVec S16 32) (k0_hw27 : k0_chk27 v382), ∀ a x, ((![v382] : Fin 1 → IVec S16 32) a x).toNat < S1680.size a := fun v382 k0_hw27 => k0_hw27

def k0_chk28 (v388 : IVec S16 32) : Prop :=
  (∀ a x, ((![v388] : Fin 1 → IVec S16 32) a x).toNat < S54912.size a)
theorem k0_idx28_inb : ∀ (v388 : IVec S16 32) (k0_hw28 : k0_chk28 v388), ∀ a x, ((![v388] : Fin 1 → IVec S16 32) a x).toNat < S54912.size a := fun v388 k0_hw28 => k0_hw28
def k0_off31 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_0 : BitVec 32 := 0#32
  let c1_i32 : BitVec 32 := 1#32
  let arg12 : BitVec 32 := Scf.iv c0_i32_0 c1_i32 k0_t1
  let c128_i32 : BitVec 32 := 128#32
  let v7 : BitVec 32 := Scalar.muli arg12 c128_i32
  let v8 : BitVec 32 := Scalar.addi v2 v7
  let c429_i32 : BitVec 32 := 429#32
  let v221 : BitVec 32 := Scalar.muli v8 c429_i32
  ![v221.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x20x13 : Shape := ⟨3, ![4096, 20, 13]⟩
abbrev S4096x20x26 : Shape := ⟨3, ![4096, 20, 26]⟩
abbrev S26x100000x16 : Shape := ⟨3, ![26, 100000, 16]⟩
abbrev S4096x20x1 : Shape := ⟨3, ![4096, 20, 1]⟩
abbrev S4096x20 : Shape := ⟨2, ![4096, 20]⟩
abbrev S1x100000x16 : Shape := ⟨3, ![1, 100000, 16]⟩
abbrev S100000x16 : Shape := ⟨2, ![100000, 16]⟩
abbrev S_ : Shape := ⟨0, ![]⟩
abbrev S1 : Shape := ⟨1, ![1]⟩
abbrev S1x1x1 : Shape := ⟨3, ![1, 1, 1]⟩
abbrev S4096x20x16 : Shape := ⟨3, ![4096, 20, 16]⟩
abbrev S4096x20x256 : Shape := ⟨3, ![4096, 20, 256]⟩
abbrev S4096x20x160 : Shape := ⟨3, ![4096, 20, 160]⟩
abbrev S4096x20x416 : Shape := ⟨3, ![4096, 20, 416]⟩
abbrev S4096x20x429 : Shape := ⟨3, ![4096, 20, 429]⟩

abbrev nBuf : Space → Nat
  | .hbm => 709
  | .vmem => 0
  | .smem => 0
  | _ => 0

abbrev hbmTy0_0 (i : Nat) : BufTy := match i % 128 with
  | 0 => ⟨S4096x20x13, .f32⟩
  | 1 => ⟨S4096x20x26, .i32⟩
  | 2 => ⟨S26x100000x16, .f32⟩
  | 3 => ⟨S4096x20x1, .i32⟩
  | 4 => ⟨S4096x20, .i32⟩
  | 5 => ⟨S1x100000x16, .f32⟩
  | 6 => ⟨S100000x16, .f32⟩
  | 7 => ⟨S_, .i32⟩
  | 8 => ⟨S4096x20, .i32⟩
  | 9 => ⟨S4096x20, .i1⟩
  | 10 => ⟨S_, .i32⟩
  | 11 => ⟨S4096x20, .i32⟩
  | 12 => ⟨S4096x20, .i32⟩
  | 13 => ⟨S4096x20, .i32⟩
  | 14 => ⟨S4096x20x1, .i32⟩
  | 15 => ⟨S1, .i32⟩
  | 16 => ⟨S_, .i32⟩
  | 17 => ⟨S4096x20x1, .i32⟩
  | 18 => ⟨S4096x20x1, .i1⟩
  | 19 => ⟨S1x1x1, .i32⟩
  | 20 => ⟨S4096x20x1, .i32⟩
  | 21 => ⟨S4096x20x1, .i1⟩
  | 22 => ⟨S4096x20x1, .i1⟩
  | 23 => ⟨S_, .i1⟩
  | 24 => ⟨S4096x20, .i1⟩
  | 25 => ⟨S4096x20x16, .f32⟩
  | 26 => ⟨S4096x20x16, .i1⟩
  | 27 => ⟨S_, .f32⟩
  | 28 => ⟨S4096x20x16, .f32⟩
  | 29 => ⟨S4096x20x16, .f32⟩
  | 30 => ⟨S4096x20x1, .i32⟩
  | 31 => ⟨S4096x20, .i32⟩
  | 32 => ⟨S1x100000x16, .f32⟩
  | 33 => ⟨S100000x16, .f32⟩
  | 34 => ⟨S_, .i32⟩
  | 35 => ⟨S4096x20, .i32⟩
  | 36 => ⟨S4096x20, .i1⟩
  | 37 => ⟨S_, .i32⟩
  | 38 => ⟨S4096x20, .i32⟩
  | 39 => ⟨S4096x20, .i32⟩
  | 40 => ⟨S4096x20, .i32⟩
  | 41 => ⟨S4096x20x1, .i32⟩
  | 42 => ⟨S1, .i32⟩
  | 43 => ⟨S_, .i32⟩
  | 44 => ⟨S4096x20x1, .i32⟩
  | 45 => ⟨S4096x20x1, .i1⟩
  | 46 => ⟨S1x1x1, .i32⟩
  | 47 => ⟨S4096x20x1, .i32⟩
  | 48 => ⟨S4096x20x1, .i1⟩
  | 49 => ⟨S4096x20x1, .i1⟩
  | 50 => ⟨S_, .i1⟩
  | 51 => ⟨S4096x20, .i1⟩
  | 52 => ⟨S4096x20x16, .f32⟩
  | 53 => ⟨S4096x20x16, .i1⟩
  | 54 => ⟨S_, .f32⟩
  | 55 => ⟨S4096x20x16, .f32⟩
  | 56 => ⟨S4096x20x16, .f32⟩
  | 57 => ⟨S4096x20x1, .i32⟩
  | 58 => ⟨S4096x20, .i32⟩
  | 59 => ⟨S1x100000x16, .f32⟩
  | 60 => ⟨S100000x16, .f32⟩
  | 61 => ⟨S_, .i32⟩
  | 62 => ⟨S4096x20, .i32⟩
  | 63 => ⟨S4096x20, .i1⟩
  | 64 => ⟨S_, .i32⟩
  | 65 => ⟨S4096x20, .i32⟩
  | 66 => ⟨S4096x20, .i32⟩
  | 67 => ⟨S4096x20, .i32⟩
  | 68 => ⟨S4096x20x1, .i32⟩
  | 69 => ⟨S1, .i32⟩
  | 70 => ⟨S_, .i32⟩
  | 71 => ⟨S4096x20x1, .i32⟩
  | 72 => ⟨S4096x20x1, .i1⟩
  | 73 => ⟨S1x1x1, .i32⟩
  | 74 => ⟨S4096x20x1, .i32⟩
  | 75 => ⟨S4096x20x1, .i1⟩
  | 76 => ⟨S4096x20x1, .i1⟩
  | 77 => ⟨S_, .i1⟩
  | 78 => ⟨S4096x20, .i1⟩
  | 79 => ⟨S4096x20x16, .f32⟩
  | 80 => ⟨S4096x20x16, .i1⟩
  | 81 => ⟨S_, .f32⟩
  | 82 => ⟨S4096x20x16, .f32⟩
  | 83 => ⟨S4096x20x16, .f32⟩
  | 84 => ⟨S4096x20x1, .i32⟩
  | 85 => ⟨S4096x20, .i32⟩
  | 86 => ⟨S1x100000x16, .f32⟩
  | 87 => ⟨S100000x16, .f32⟩
  | 88 => ⟨S_, .i32⟩
  | 89 => ⟨S4096x20, .i32⟩
  | 90 => ⟨S4096x20, .i1⟩
  | 91 => ⟨S_, .i32⟩
  | 92 => ⟨S4096x20, .i32⟩
  | 93 => ⟨S4096x20, .i32⟩
  | 94 => ⟨S4096x20, .i32⟩
  | 95 => ⟨S4096x20x1, .i32⟩
  | 96 => ⟨S1, .i32⟩
  | 97 => ⟨S_, .i32⟩
  | 98 => ⟨S4096x20x1, .i32⟩
  | 99 => ⟨S4096x20x1, .i1⟩
  | 100 => ⟨S1x1x1, .i32⟩
  | 101 => ⟨S4096x20x1, .i32⟩
  | 102 => ⟨S4096x20x1, .i1⟩
  | 103 => ⟨S4096x20x1, .i1⟩
  | 104 => ⟨S_, .i1⟩
  | 105 => ⟨S4096x20, .i1⟩
  | 106 => ⟨S4096x20x16, .f32⟩
  | 107 => ⟨S4096x20x16, .i1⟩
  | 108 => ⟨S_, .f32⟩
  | 109 => ⟨S4096x20x16, .f32⟩
  | 110 => ⟨S4096x20x16, .f32⟩
  | 111 => ⟨S4096x20x1, .i32⟩
  | 112 => ⟨S4096x20, .i32⟩
  | 113 => ⟨S1x100000x16, .f32⟩
  | 114 => ⟨S100000x16, .f32⟩
  | 115 => ⟨S_, .i32⟩
  | 116 => ⟨S4096x20, .i32⟩
  | 117 => ⟨S4096x20, .i1⟩
  | 118 => ⟨S_, .i32⟩
  | 119 => ⟨S4096x20, .i32⟩
  | 120 => ⟨S4096x20, .i32⟩
  | 121 => ⟨S4096x20, .i32⟩
  | 122 => ⟨S4096x20x1, .i32⟩
  | 123 => ⟨S1, .i32⟩
  | 124 => ⟨S_, .i32⟩
  | 125 => ⟨S4096x20x1, .i32⟩
  | 126 => ⟨S4096x20x1, .i1⟩
  | 127 => ⟨S1x1x1, .i32⟩
  | _ => ⟨S4096x20x13, .f32⟩

abbrev hbmTy0_1 (i : Nat) : BufTy := match i % 128 with
  | 0 => ⟨S4096x20x1, .i32⟩
  | 1 => ⟨S4096x20x1, .i1⟩
  | 2 => ⟨S4096x20x1, .i1⟩
  | 3 => ⟨S_, .i1⟩
  | 4 => ⟨S4096x20, .i1⟩
  | 5 => ⟨S4096x20x16, .f32⟩
  | 6 => ⟨S4096x20x16, .i1⟩
  | 7 => ⟨S_, .f32⟩
  | 8 => ⟨S4096x20x16, .f32⟩
  | 9 => ⟨S4096x20x16, .f32⟩
  | 10 => ⟨S4096x20x1, .i32⟩
  | 11 => ⟨S4096x20, .i32⟩
  | 12 => ⟨S1x100000x16, .f32⟩
  | 13 => ⟨S100000x16, .f32⟩
  | 14 => ⟨S_, .i32⟩
  | 15 => ⟨S4096x20, .i32⟩
  | 16 => ⟨S4096x20, .i1⟩
  | 17 => ⟨S_, .i32⟩
  | 18 => ⟨S4096x20, .i32⟩
  | 19 => ⟨S4096x20, .i32⟩
  | 20 => ⟨S4096x20, .i32⟩
  | 21 => ⟨S4096x20x1, .i32⟩
  | 22 => ⟨S1, .i32⟩
  | 23 => ⟨S_, .i32⟩
  | 24 => ⟨S4096x20x1, .i32⟩
  | 25 => ⟨S4096x20x1, .i1⟩
  | 26 => ⟨S1x1x1, .i32⟩
  | 27 => ⟨S4096x20x1, .i32⟩
  | 28 => ⟨S4096x20x1, .i1⟩
  | 29 => ⟨S4096x20x1, .i1⟩
  | 30 => ⟨S_, .i1⟩
  | 31 => ⟨S4096x20, .i1⟩
  | 32 => ⟨S4096x20x16, .f32⟩
  | 33 => ⟨S4096x20x16, .i1⟩
  | 34 => ⟨S_, .f32⟩
  | 35 => ⟨S4096x20x16, .f32⟩
  | 36 => ⟨S4096x20x16, .f32⟩
  | 37 => ⟨S4096x20x1, .i32⟩
  | 38 => ⟨S4096x20, .i32⟩
  | 39 => ⟨S1x100000x16, .f32⟩
  | 40 => ⟨S100000x16, .f32⟩
  | 41 => ⟨S_, .i32⟩
  | 42 => ⟨S4096x20, .i32⟩
  | 43 => ⟨S4096x20, .i1⟩
  | 44 => ⟨S_, .i32⟩
  | 45 => ⟨S4096x20, .i32⟩
  | 46 => ⟨S4096x20, .i32⟩
  | 47 => ⟨S4096x20, .i32⟩
  | 48 => ⟨S4096x20x1, .i32⟩
  | 49 => ⟨S1, .i32⟩
  | 50 => ⟨S_, .i32⟩
  | 51 => ⟨S4096x20x1, .i32⟩
  | 52 => ⟨S4096x20x1, .i1⟩
  | 53 => ⟨S1x1x1, .i32⟩
  | 54 => ⟨S4096x20x1, .i32⟩
  | 55 => ⟨S4096x20x1, .i1⟩
  | 56 => ⟨S4096x20x1, .i1⟩
  | 57 => ⟨S_, .i1⟩
  | 58 => ⟨S4096x20, .i1⟩
  | 59 => ⟨S4096x20x16, .f32⟩
  | 60 => ⟨S4096x20x16, .i1⟩
  | 61 => ⟨S_, .f32⟩
  | 62 => ⟨S4096x20x16, .f32⟩
  | 63 => ⟨S4096x20x16, .f32⟩
  | 64 => ⟨S4096x20x1, .i32⟩
  | 65 => ⟨S4096x20, .i32⟩
  | 66 => ⟨S1x100000x16, .f32⟩
  | 67 => ⟨S100000x16, .f32⟩
  | 68 => ⟨S_, .i32⟩
  | 69 => ⟨S4096x20, .i32⟩
  | 70 => ⟨S4096x20, .i1⟩
  | 71 => ⟨S_, .i32⟩
  | 72 => ⟨S4096x20, .i32⟩
  | 73 => ⟨S4096x20, .i32⟩
  | 74 => ⟨S4096x20, .i32⟩
  | 75 => ⟨S4096x20x1, .i32⟩
  | 76 => ⟨S1, .i32⟩
  | 77 => ⟨S_, .i32⟩
  | 78 => ⟨S4096x20x1, .i32⟩
  | 79 => ⟨S4096x20x1, .i1⟩
  | 80 => ⟨S1x1x1, .i32⟩
  | 81 => ⟨S4096x20x1, .i32⟩
  | 82 => ⟨S4096x20x1, .i1⟩
  | 83 => ⟨S4096x20x1, .i1⟩
  | 84 => ⟨S_, .i1⟩
  | 85 => ⟨S4096x20, .i1⟩
  | 86 => ⟨S4096x20x16, .f32⟩
  | 87 => ⟨S4096x20x16, .i1⟩
  | 88 => ⟨S_, .f32⟩
  | 89 => ⟨S4096x20x16, .f32⟩
  | 90 => ⟨S4096x20x16, .f32⟩
  | 91 => ⟨S4096x20x1, .i32⟩
  | 92 => ⟨S4096x20, .i32⟩
  | 93 => ⟨S1x100000x16, .f32⟩
  | 94 => ⟨S100000x16, .f32⟩
  | 95 => ⟨S_, .i32⟩
  | 96 => ⟨S4096x20, .i32⟩
  | 97 => ⟨S4096x20, .i1⟩
  | 98 => ⟨S_, .i32⟩
  | 99 => ⟨S4096x20, .i32⟩
  | 100 => ⟨S4096x20, .i32⟩
  | 101 => ⟨S4096x20, .i32⟩
  | 102 => ⟨S4096x20x1, .i32⟩
  | 103 => ⟨S1, .i32⟩
  | 104 => ⟨S_, .i32⟩
  | 105 => ⟨S4096x20x1, .i32⟩
  | 106 => ⟨S4096x20x1, .i1⟩
  | 107 => ⟨S1x1x1, .i32⟩
  | 108 => ⟨S4096x20x1, .i32⟩
  | 109 => ⟨S4096x20x1, .i1⟩
  | 110 => ⟨S4096x20x1, .i1⟩
  | 111 => ⟨S_, .i1⟩
  | 112 => ⟨S4096x20, .i1⟩
  | 113 => ⟨S4096x20x16, .f32⟩
  | 114 => ⟨S4096x20x16, .i1⟩
  | 115 => ⟨S_, .f32⟩
  | 116 => ⟨S4096x20x16, .f32⟩
  | 117 => ⟨S4096x20x16, .f32⟩
  | 118 => ⟨S4096x20x1, .i32⟩
  | 119 => ⟨S4096x20, .i32⟩
  | 120 => ⟨S1x100000x16, .f32⟩
  | 121 => ⟨S100000x16, .f32⟩
  | 122 => ⟨S_, .i32⟩
  | 123 => ⟨S4096x20, .i32⟩
  | 124 => ⟨S4096x20, .i1⟩
  | 125 => ⟨S_, .i32⟩
  | 126 => ⟨S4096x20, .i32⟩
  | 127 => ⟨S4096x20, .i32⟩
  | _ => ⟨S4096x20x13, .f32⟩

abbrev hbmTy0_2 (i : Nat) : BufTy := match i % 128 with
  | 0 => ⟨S4096x20, .i32⟩
  | 1 => ⟨S4096x20x1, .i32⟩
  | 2 => ⟨S1, .i32⟩
  | 3 => ⟨S_, .i32⟩
  | 4 => ⟨S4096x20x1, .i32⟩
  | 5 => ⟨S4096x20x1, .i1⟩
  | 6 => ⟨S1x1x1, .i32⟩
  | 7 => ⟨S4096x20x1, .i32⟩
  | 8 => ⟨S4096x20x1, .i1⟩
  | 9 => ⟨S4096x20x1, .i1⟩
  | 10 => ⟨S_, .i1⟩
  | 11 => ⟨S4096x20, .i1⟩
  | 12 => ⟨S4096x20x16, .f32⟩
  | 13 => ⟨S4096x20x16, .i1⟩
  | 14 => ⟨S_, .f32⟩
  | 15 => ⟨S4096x20x16, .f32⟩
  | 16 => ⟨S4096x20x16, .f32⟩
  | 17 => ⟨S4096x20x1, .i32⟩
  | 18 => ⟨S4096x20, .i32⟩
  | 19 => ⟨S1x100000x16, .f32⟩
  | 20 => ⟨S100000x16, .f32⟩
  | 21 => ⟨S_, .i32⟩
  | 22 => ⟨S4096x20, .i32⟩
  | 23 => ⟨S4096x20, .i1⟩
  | 24 => ⟨S_, .i32⟩
  | 25 => ⟨S4096x20, .i32⟩
  | 26 => ⟨S4096x20, .i32⟩
  | 27 => ⟨S4096x20, .i32⟩
  | 28 => ⟨S4096x20x1, .i32⟩
  | 29 => ⟨S1, .i32⟩
  | 30 => ⟨S_, .i32⟩
  | 31 => ⟨S4096x20x1, .i32⟩
  | 32 => ⟨S4096x20x1, .i1⟩
  | 33 => ⟨S1x1x1, .i32⟩
  | 34 => ⟨S4096x20x1, .i32⟩
  | 35 => ⟨S4096x20x1, .i1⟩
  | 36 => ⟨S4096x20x1, .i1⟩
  | 37 => ⟨S_, .i1⟩
  | 38 => ⟨S4096x20, .i1⟩
  | 39 => ⟨S4096x20x16, .f32⟩
  | 40 => ⟨S4096x20x16, .i1⟩
  | 41 => ⟨S_, .f32⟩
  | 42 => ⟨S4096x20x16, .f32⟩
  | 43 => ⟨S4096x20x16, .f32⟩
  | 44 => ⟨S4096x20x1, .i32⟩
  | 45 => ⟨S4096x20, .i32⟩
  | 46 => ⟨S1x100000x16, .f32⟩
  | 47 => ⟨S100000x16, .f32⟩
  | 48 => ⟨S_, .i32⟩
  | 49 => ⟨S4096x20, .i32⟩
  | 50 => ⟨S4096x20, .i1⟩
  | 51 => ⟨S_, .i32⟩
  | 52 => ⟨S4096x20, .i32⟩
  | 53 => ⟨S4096x20, .i32⟩
  | 54 => ⟨S4096x20, .i32⟩
  | 55 => ⟨S4096x20x1, .i32⟩
  | 56 => ⟨S1, .i32⟩
  | 57 => ⟨S_, .i32⟩
  | 58 => ⟨S4096x20x1, .i32⟩
  | 59 => ⟨S4096x20x1, .i1⟩
  | 60 => ⟨S1x1x1, .i32⟩
  | 61 => ⟨S4096x20x1, .i32⟩
  | 62 => ⟨S4096x20x1, .i1⟩
  | 63 => ⟨S4096x20x1, .i1⟩
  | 64 => ⟨S_, .i1⟩
  | 65 => ⟨S4096x20, .i1⟩
  | 66 => ⟨S4096x20x16, .f32⟩
  | 67 => ⟨S4096x20x16, .i1⟩
  | 68 => ⟨S_, .f32⟩
  | 69 => ⟨S4096x20x16, .f32⟩
  | 70 => ⟨S4096x20x16, .f32⟩
  | 71 => ⟨S4096x20x1, .i32⟩
  | 72 => ⟨S4096x20, .i32⟩
  | 73 => ⟨S1x100000x16, .f32⟩
  | 74 => ⟨S100000x16, .f32⟩
  | 75 => ⟨S_, .i32⟩
  | 76 => ⟨S4096x20, .i32⟩
  | 77 => ⟨S4096x20, .i1⟩
  | 78 => ⟨S_, .i32⟩
  | 79 => ⟨S4096x20, .i32⟩
  | 80 => ⟨S4096x20, .i32⟩
  | 81 => ⟨S4096x20, .i32⟩
  | 82 => ⟨S4096x20x1, .i32⟩
  | 83 => ⟨S1, .i32⟩
  | 84 => ⟨S_, .i32⟩
  | 85 => ⟨S4096x20x1, .i32⟩
  | 86 => ⟨S4096x20x1, .i1⟩
  | 87 => ⟨S1x1x1, .i32⟩
  | 88 => ⟨S4096x20x1, .i32⟩
  | 89 => ⟨S4096x20x1, .i1⟩
  | 90 => ⟨S4096x20x1, .i1⟩
  | 91 => ⟨S_, .i1⟩
  | 92 => ⟨S4096x20, .i1⟩
  | 93 => ⟨S4096x20x16, .f32⟩
  | 94 => ⟨S4096x20x16, .i1⟩
  | 95 => ⟨S_, .f32⟩
  | 96 => ⟨S4096x20x16, .f32⟩
  | 97 => ⟨S4096x20x16, .f32⟩
  | 98 => ⟨S4096x20x1, .i32⟩
  | 99 => ⟨S4096x20, .i32⟩
  | 100 => ⟨S1x100000x16, .f32⟩
  | 101 => ⟨S100000x16, .f32⟩
  | 102 => ⟨S_, .i32⟩
  | 103 => ⟨S4096x20, .i32⟩
  | 104 => ⟨S4096x20, .i1⟩
  | 105 => ⟨S_, .i32⟩
  | 106 => ⟨S4096x20, .i32⟩
  | 107 => ⟨S4096x20, .i32⟩
  | 108 => ⟨S4096x20, .i32⟩
  | 109 => ⟨S4096x20x1, .i32⟩
  | 110 => ⟨S1, .i32⟩
  | 111 => ⟨S_, .i32⟩
  | 112 => ⟨S4096x20x1, .i32⟩
  | 113 => ⟨S4096x20x1, .i1⟩
  | 114 => ⟨S1x1x1, .i32⟩
  | 115 => ⟨S4096x20x1, .i32⟩
  | 116 => ⟨S4096x20x1, .i1⟩
  | 117 => ⟨S4096x20x1, .i1⟩
  | 118 => ⟨S_, .i1⟩
  | 119 => ⟨S4096x20, .i1⟩
  | 120 => ⟨S4096x20x16, .f32⟩
  | 121 => ⟨S4096x20x16, .i1⟩
  | 122 => ⟨S_, .f32⟩
  | 123 => ⟨S4096x20x16, .f32⟩
  | 124 => ⟨S4096x20x16, .f32⟩
  | 125 => ⟨S4096x20x1, .i32⟩
  | 126 => ⟨S4096x20, .i32⟩
  | 127 => ⟨S1x100000x16, .f32⟩
  | _ => ⟨S4096x20x13, .f32⟩

abbrev hbmTy0_3 (i : Nat) : BufTy := match i % 128 with
  | 0 => ⟨S100000x16, .f32⟩
  | 1 => ⟨S_, .i32⟩
  | 2 => ⟨S4096x20, .i32⟩
  | 3 => ⟨S4096x20, .i1⟩
  | 4 => ⟨S_, .i32⟩
  | 5 => ⟨S4096x20, .i32⟩
  | 6 => ⟨S4096x20, .i32⟩
  | 7 => ⟨S4096x20, .i32⟩
  | 8 => ⟨S4096x20x1, .i32⟩
  | 9 => ⟨S1, .i32⟩
  | 10 => ⟨S_, .i32⟩
  | 11 => ⟨S4096x20x1, .i32⟩
  | 12 => ⟨S4096x20x1, .i1⟩
  | 13 => ⟨S1x1x1, .i32⟩
  | 14 => ⟨S4096x20x1, .i32⟩
  | 15 => ⟨S4096x20x1, .i1⟩
  | 16 => ⟨S4096x20x1, .i1⟩
  | 17 => ⟨S_, .i1⟩
  | 18 => ⟨S4096x20, .i1⟩
  | 19 => ⟨S4096x20x16, .f32⟩
  | 20 => ⟨S4096x20x16, .i1⟩
  | 21 => ⟨S_, .f32⟩
  | 22 => ⟨S4096x20x16, .f32⟩
  | 23 => ⟨S4096x20x16, .f32⟩
  | 24 => ⟨S4096x20x1, .i32⟩
  | 25 => ⟨S4096x20, .i32⟩
  | 26 => ⟨S1x100000x16, .f32⟩
  | 27 => ⟨S100000x16, .f32⟩
  | 28 => ⟨S_, .i32⟩
  | 29 => ⟨S4096x20, .i32⟩
  | 30 => ⟨S4096x20, .i1⟩
  | 31 => ⟨S_, .i32⟩
  | 32 => ⟨S4096x20, .i32⟩
  | 33 => ⟨S4096x20, .i32⟩
  | 34 => ⟨S4096x20, .i32⟩
  | 35 => ⟨S4096x20x1, .i32⟩
  | 36 => ⟨S1, .i32⟩
  | 37 => ⟨S_, .i32⟩
  | 38 => ⟨S4096x20x1, .i32⟩
  | 39 => ⟨S4096x20x1, .i1⟩
  | 40 => ⟨S1x1x1, .i32⟩
  | 41 => ⟨S4096x20x1, .i32⟩
  | 42 => ⟨S4096x20x1, .i1⟩
  | 43 => ⟨S4096x20x1, .i1⟩
  | 44 => ⟨S_, .i1⟩
  | 45 => ⟨S4096x20, .i1⟩
  | 46 => ⟨S4096x20x16, .f32⟩
  | 47 => ⟨S4096x20x16, .i1⟩
  | 48 => ⟨S_, .f32⟩
  | 49 => ⟨S4096x20x16, .f32⟩
  | 50 => ⟨S4096x20x16, .f32⟩
  | 51 => ⟨S4096x20x1, .i32⟩
  | 52 => ⟨S4096x20, .i32⟩
  | 53 => ⟨S1x100000x16, .f32⟩
  | 54 => ⟨S100000x16, .f32⟩
  | 55 => ⟨S_, .i32⟩
  | 56 => ⟨S4096x20, .i32⟩
  | 57 => ⟨S4096x20, .i1⟩
  | 58 => ⟨S_, .i32⟩
  | 59 => ⟨S4096x20, .i32⟩
  | 60 => ⟨S4096x20, .i32⟩
  | 61 => ⟨S4096x20, .i32⟩
  | 62 => ⟨S4096x20x1, .i32⟩
  | 63 => ⟨S1, .i32⟩
  | 64 => ⟨S_, .i32⟩
  | 65 => ⟨S4096x20x1, .i32⟩
  | 66 => ⟨S4096x20x1, .i1⟩
  | 67 => ⟨S1x1x1, .i32⟩
  | 68 => ⟨S4096x20x1, .i32⟩
  | 69 => ⟨S4096x20x1, .i1⟩
  | 70 => ⟨S4096x20x1, .i1⟩
  | 71 => ⟨S_, .i1⟩
  | 72 => ⟨S4096x20, .i1⟩
  | 73 => ⟨S4096x20x16, .f32⟩
  | 74 => ⟨S4096x20x16, .i1⟩
  | 75 => ⟨S_, .f32⟩
  | 76 => ⟨S4096x20x16, .f32⟩
  | 77 => ⟨S4096x20x16, .f32⟩
  | 78 => ⟨S4096x20x1, .i32⟩
  | 79 => ⟨S4096x20, .i32⟩
  | 80 => ⟨S1x100000x16, .f32⟩
  | 81 => ⟨S100000x16, .f32⟩
  | 82 => ⟨S_, .i32⟩
  | 83 => ⟨S4096x20, .i32⟩
  | 84 => ⟨S4096x20, .i1⟩
  | 85 => ⟨S_, .i32⟩
  | 86 => ⟨S4096x20, .i32⟩
  | 87 => ⟨S4096x20, .i32⟩
  | 88 => ⟨S4096x20, .i32⟩
  | 89 => ⟨S4096x20x1, .i32⟩
  | 90 => ⟨S1, .i32⟩
  | 91 => ⟨S_, .i32⟩
  | 92 => ⟨S4096x20x1, .i32⟩
  | 93 => ⟨S4096x20x1, .i1⟩
  | 94 => ⟨S1x1x1, .i32⟩
  | 95 => ⟨S4096x20x1, .i32⟩
  | 96 => ⟨S4096x20x1, .i1⟩
  | 97 => ⟨S4096x20x1, .i1⟩
  | 98 => ⟨S_, .i1⟩
  | 99 => ⟨S4096x20, .i1⟩
  | 100 => ⟨S4096x20x16, .f32⟩
  | 101 => ⟨S4096x20x16, .i1⟩
  | 102 => ⟨S_, .f32⟩
  | 103 => ⟨S4096x20x16, .f32⟩
  | 104 => ⟨S4096x20x16, .f32⟩
  | 105 => ⟨S4096x20x1, .i32⟩
  | 106 => ⟨S4096x20, .i32⟩
  | 107 => ⟨S1x100000x16, .f32⟩
  | 108 => ⟨S100000x16, .f32⟩
  | 109 => ⟨S_, .i32⟩
  | 110 => ⟨S4096x20, .i32⟩
  | 111 => ⟨S4096x20, .i1⟩
  | 112 => ⟨S_, .i32⟩
  | 113 => ⟨S4096x20, .i32⟩
  | 114 => ⟨S4096x20, .i32⟩
  | 115 => ⟨S4096x20, .i32⟩
  | 116 => ⟨S4096x20x1, .i32⟩
  | 117 => ⟨S1, .i32⟩
  | 118 => ⟨S_, .i32⟩
  | 119 => ⟨S4096x20x1, .i32⟩
  | 120 => ⟨S4096x20x1, .i1⟩
  | 121 => ⟨S1x1x1, .i32⟩
  | 122 => ⟨S4096x20x1, .i32⟩
  | 123 => ⟨S4096x20x1, .i1⟩
  | 124 => ⟨S4096x20x1, .i1⟩
  | 125 => ⟨S_, .i1⟩
  | 126 => ⟨S4096x20, .i1⟩
  | 127 => ⟨S4096x20x16, .f32⟩
  | _ => ⟨S4096x20x13, .f32⟩

abbrev hbmTy0_4 (i : Nat) : BufTy := match i % 128 with
  | 0 => ⟨S4096x20x16, .i1⟩
  | 1 => ⟨S_, .f32⟩
  | 2 => ⟨S4096x20x16, .f32⟩
  | 3 => ⟨S4096x20x16, .f32⟩
  | 4 => ⟨S4096x20x1, .i32⟩
  | 5 => ⟨S4096x20, .i32⟩
  | 6 => ⟨S1x100000x16, .f32⟩
  | 7 => ⟨S100000x16, .f32⟩
  | 8 => ⟨S_, .i32⟩
  | 9 => ⟨S4096x20, .i32⟩
  | 10 => ⟨S4096x20, .i1⟩
  | 11 => ⟨S_, .i32⟩
  | 12 => ⟨S4096x20, .i32⟩
  | 13 => ⟨S4096x20, .i32⟩
  | 14 => ⟨S4096x20, .i32⟩
  | 15 => ⟨S4096x20x1, .i32⟩
  | 16 => ⟨S1, .i32⟩
  | 17 => ⟨S_, .i32⟩
  | 18 => ⟨S4096x20x1, .i32⟩
  | 19 => ⟨S4096x20x1, .i1⟩
  | 20 => ⟨S1x1x1, .i32⟩
  | 21 => ⟨S4096x20x1, .i32⟩
  | 22 => ⟨S4096x20x1, .i1⟩
  | 23 => ⟨S4096x20x1, .i1⟩
  | 24 => ⟨S_, .i1⟩
  | 25 => ⟨S4096x20, .i1⟩
  | 26 => ⟨S4096x20x16, .f32⟩
  | 27 => ⟨S4096x20x16, .i1⟩
  | 28 => ⟨S_, .f32⟩
  | 29 => ⟨S4096x20x16, .f32⟩
  | 30 => ⟨S4096x20x16, .f32⟩
  | 31 => ⟨S4096x20x1, .i32⟩
  | 32 => ⟨S4096x20, .i32⟩
  | 33 => ⟨S1x100000x16, .f32⟩
  | 34 => ⟨S100000x16, .f32⟩
  | 35 => ⟨S_, .i32⟩
  | 36 => ⟨S4096x20, .i32⟩
  | 37 => ⟨S4096x20, .i1⟩
  | 38 => ⟨S_, .i32⟩
  | 39 => ⟨S4096x20, .i32⟩
  | 40 => ⟨S4096x20, .i32⟩
  | 41 => ⟨S4096x20, .i32⟩
  | 42 => ⟨S4096x20x1, .i32⟩
  | 43 => ⟨S1, .i32⟩
  | 44 => ⟨S_, .i32⟩
  | 45 => ⟨S4096x20x1, .i32⟩
  | 46 => ⟨S4096x20x1, .i1⟩
  | 47 => ⟨S1x1x1, .i32⟩
  | 48 => ⟨S4096x20x1, .i32⟩
  | 49 => ⟨S4096x20x1, .i1⟩
  | 50 => ⟨S4096x20x1, .i1⟩
  | 51 => ⟨S_, .i1⟩
  | 52 => ⟨S4096x20, .i1⟩
  | 53 => ⟨S4096x20x16, .f32⟩
  | 54 => ⟨S4096x20x16, .i1⟩
  | 55 => ⟨S_, .f32⟩
  | 56 => ⟨S4096x20x16, .f32⟩
  | 57 => ⟨S4096x20x16, .f32⟩
  | 58 => ⟨S4096x20x1, .i32⟩
  | 59 => ⟨S4096x20, .i32⟩
  | 60 => ⟨S1x100000x16, .f32⟩
  | 61 => ⟨S100000x16, .f32⟩
  | 62 => ⟨S_, .i32⟩
  | 63 => ⟨S4096x20, .i32⟩
  | 64 => ⟨S4096x20, .i1⟩
  | 65 => ⟨S_, .i32⟩
  | 66 => ⟨S4096x20, .i32⟩
  | 67 => ⟨S4096x20, .i32⟩
  | 68 => ⟨S4096x20, .i32⟩
  | 69 => ⟨S4096x20x1, .i32⟩
  | 70 => ⟨S1, .i32⟩
  | 71 => ⟨S_, .i32⟩
  | 72 => ⟨S4096x20x1, .i32⟩
  | 73 => ⟨S4096x20x1, .i1⟩
  | 74 => ⟨S1x1x1, .i32⟩
  | 75 => ⟨S4096x20x1, .i32⟩
  | 76 => ⟨S4096x20x1, .i1⟩
  | 77 => ⟨S4096x20x1, .i1⟩
  | 78 => ⟨S_, .i1⟩
  | 79 => ⟨S4096x20, .i1⟩
  | 80 => ⟨S4096x20x16, .f32⟩
  | 81 => ⟨S4096x20x16, .i1⟩
  | 82 => ⟨S_, .f32⟩
  | 83 => ⟨S4096x20x16, .f32⟩
  | 84 => ⟨S4096x20x16, .f32⟩
  | 85 => ⟨S4096x20x1, .i32⟩
  | 86 => ⟨S4096x20, .i32⟩
  | 87 => ⟨S1x100000x16, .f32⟩
  | 88 => ⟨S100000x16, .f32⟩
  | 89 => ⟨S_, .i32⟩
  | 90 => ⟨S4096x20, .i32⟩
  | 91 => ⟨S4096x20, .i1⟩
  | 92 => ⟨S_, .i32⟩
  | 93 => ⟨S4096x20, .i32⟩
  | 94 => ⟨S4096x20, .i32⟩
  | 95 => ⟨S4096x20, .i32⟩
  | 96 => ⟨S4096x20x1, .i32⟩
  | 97 => ⟨S1, .i32⟩
  | 98 => ⟨S_, .i32⟩
  | 99 => ⟨S4096x20x1, .i32⟩
  | 100 => ⟨S4096x20x1, .i1⟩
  | 101 => ⟨S1x1x1, .i32⟩
  | 102 => ⟨S4096x20x1, .i32⟩
  | 103 => ⟨S4096x20x1, .i1⟩
  | 104 => ⟨S4096x20x1, .i1⟩
  | 105 => ⟨S_, .i1⟩
  | 106 => ⟨S4096x20, .i1⟩
  | 107 => ⟨S4096x20x16, .f32⟩
  | 108 => ⟨S4096x20x16, .i1⟩
  | 109 => ⟨S_, .f32⟩
  | 110 => ⟨S4096x20x16, .f32⟩
  | 111 => ⟨S4096x20x16, .f32⟩
  | 112 => ⟨S4096x20x1, .i32⟩
  | 113 => ⟨S4096x20, .i32⟩
  | 114 => ⟨S1x100000x16, .f32⟩
  | 115 => ⟨S100000x16, .f32⟩
  | 116 => ⟨S_, .i32⟩
  | 117 => ⟨S4096x20, .i32⟩
  | 118 => ⟨S4096x20, .i1⟩
  | 119 => ⟨S_, .i32⟩
  | 120 => ⟨S4096x20, .i32⟩
  | 121 => ⟨S4096x20, .i32⟩
  | 122 => ⟨S4096x20, .i32⟩
  | 123 => ⟨S4096x20x1, .i32⟩
  | 124 => ⟨S1, .i32⟩
  | 125 => ⟨S_, .i32⟩
  | 126 => ⟨S4096x20x1, .i32⟩
  | 127 => ⟨S4096x20x1, .i1⟩
  | _ => ⟨S4096x20x13, .f32⟩

abbrev hbmTy0_5 (i : Nat) : BufTy := match i % 128 with
  | 0 => ⟨S1x1x1, .i32⟩
  | 1 => ⟨S4096x20x1, .i32⟩
  | 2 => ⟨S4096x20x1, .i1⟩
  | 3 => ⟨S4096x20x1, .i1⟩
  | 4 => ⟨S_, .i1⟩
  | 5 => ⟨S4096x20, .i1⟩
  | 6 => ⟨S4096x20x16, .f32⟩
  | 7 => ⟨S4096x20x16, .i1⟩
  | 8 => ⟨S_, .f32⟩
  | 9 => ⟨S4096x20x16, .f32⟩
  | 10 => ⟨S4096x20x16, .f32⟩
  | 11 => ⟨S4096x20x1, .i32⟩
  | 12 => ⟨S4096x20, .i32⟩
  | 13 => ⟨S1x100000x16, .f32⟩
  | 14 => ⟨S100000x16, .f32⟩
  | 15 => ⟨S_, .i32⟩
  | 16 => ⟨S4096x20, .i32⟩
  | 17 => ⟨S4096x20, .i1⟩
  | 18 => ⟨S_, .i32⟩
  | 19 => ⟨S4096x20, .i32⟩
  | 20 => ⟨S4096x20, .i32⟩
  | 21 => ⟨S4096x20, .i32⟩
  | 22 => ⟨S4096x20x1, .i32⟩
  | 23 => ⟨S1, .i32⟩
  | 24 => ⟨S_, .i32⟩
  | 25 => ⟨S4096x20x1, .i32⟩
  | 26 => ⟨S4096x20x1, .i1⟩
  | 27 => ⟨S1x1x1, .i32⟩
  | 28 => ⟨S4096x20x1, .i32⟩
  | 29 => ⟨S4096x20x1, .i1⟩
  | 30 => ⟨S4096x20x1, .i1⟩
  | 31 => ⟨S_, .i1⟩
  | 32 => ⟨S4096x20, .i1⟩
  | 33 => ⟨S4096x20x16, .f32⟩
  | 34 => ⟨S4096x20x16, .i1⟩
  | 35 => ⟨S_, .f32⟩
  | 36 => ⟨S4096x20x16, .f32⟩
  | 37 => ⟨S4096x20x16, .f32⟩
  | 38 => ⟨S4096x20x1, .i32⟩
  | 39 => ⟨S4096x20, .i32⟩
  | 40 => ⟨S1x100000x16, .f32⟩
  | 41 => ⟨S100000x16, .f32⟩
  | 42 => ⟨S_, .i32⟩
  | 43 => ⟨S4096x20, .i32⟩
  | 44 => ⟨S4096x20, .i1⟩
  | 45 => ⟨S_, .i32⟩
  | 46 => ⟨S4096x20, .i32⟩
  | 47 => ⟨S4096x20, .i32⟩
  | 48 => ⟨S4096x20, .i32⟩
  | 49 => ⟨S4096x20x1, .i32⟩
  | 50 => ⟨S1, .i32⟩
  | 51 => ⟨S_, .i32⟩
  | 52 => ⟨S4096x20x1, .i32⟩
  | 53 => ⟨S4096x20x1, .i1⟩
  | 54 => ⟨S1x1x1, .i32⟩
  | 55 => ⟨S4096x20x1, .i32⟩
  | 56 => ⟨S4096x20x1, .i1⟩
  | 57 => ⟨S4096x20x1, .i1⟩
  | 58 => ⟨S_, .i1⟩
  | 59 => ⟨S4096x20, .i1⟩
  | 60 => ⟨S4096x20x16, .f32⟩
  | 61 => ⟨S4096x20x16, .i1⟩
  | 62 => ⟨S_, .f32⟩
  | 63 => ⟨S4096x20x16, .f32⟩
  | 64 => ⟨S4096x20x16, .f32⟩
  | 65 => ⟨S4096x20x256, .f32⟩
  | 66 => ⟨S4096x20x160, .f32⟩
  | 67 => ⟨S4096x20x416, .f32⟩
  | 68 => ⟨S4096x20x429, .f32⟩
  | _ => ⟨S4096x20x13, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x20x13, .f32⟩

abbrev bufTy : (tb : Table) → Fin (tcTables nBuf tb) → BufTy
  | .hbm, ⟨i, _⟩ => hbmTy i
  | _, _ => ⟨S4096x20x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v19 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_cst : Ref sig .tc := ⟨.hbm, 135, rfl⟩
abbrev main_call4_v15 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_call5_c : Ref sig .tc := ⟨.hbm, 142, rfl⟩
abbrev main_call5_v0 : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_c_1 : Ref sig .tc := ⟨.hbm, 150, rfl⟩
abbrev main_call5_c_2 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_3 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_call5_cst : Ref sig .tc := ⟨.hbm, 162, rfl⟩
abbrev main_call5_v15 : Ref sig .tc := ⟨.hbm, 163, rfl⟩
abbrev main_v29 : Ref sig .tc := ⟨.hbm, 164, rfl⟩
abbrev main_v30 : Ref sig .tc := ⟨.hbm, 165, rfl⟩
abbrev main_v31 : Ref sig .tc := ⟨.hbm, 166, rfl⟩
abbrev main_v32 : Ref sig .tc := ⟨.hbm, 167, rfl⟩
abbrev main_v33 : Ref sig .tc := ⟨.hbm, 168, rfl⟩
abbrev main_call6_c : Ref sig .tc := ⟨.hbm, 169, rfl⟩
abbrev main_call6_v0 : Ref sig .tc := ⟨.hbm, 170, rfl⟩
abbrev main_call6_v1 : Ref sig .tc := ⟨.hbm, 171, rfl⟩
abbrev main_call6_c_0 : Ref sig .tc := ⟨.hbm, 172, rfl⟩
abbrev main_call6_v2 : Ref sig .tc := ⟨.hbm, 173, rfl⟩
abbrev main_call6_v3 : Ref sig .tc := ⟨.hbm, 174, rfl⟩
abbrev main_call6_v4 : Ref sig .tc := ⟨.hbm, 175, rfl⟩
abbrev main_call6_v5 : Ref sig .tc := ⟨.hbm, 176, rfl⟩
abbrev main_call6_c_1 : Ref sig .tc := ⟨.hbm, 177, rfl⟩
abbrev main_call6_c_2 : Ref sig .tc := ⟨.hbm, 178, rfl⟩
abbrev main_call6_v6 : Ref sig .tc := ⟨.hbm, 179, rfl⟩
abbrev main_call6_v7 : Ref sig .tc := ⟨.hbm, 180, rfl⟩
abbrev main_call6_v8 : Ref sig .tc := ⟨.hbm, 181, rfl⟩
abbrev main_call6_v9 : Ref sig .tc := ⟨.hbm, 182, rfl⟩
abbrev main_call6_v10 : Ref sig .tc := ⟨.hbm, 183, rfl⟩
abbrev main_call6_v11 : Ref sig .tc := ⟨.hbm, 184, rfl⟩
abbrev main_call6_c_3 : Ref sig .tc := ⟨.hbm, 185, rfl⟩
abbrev main_call6_v12 : Ref sig .tc := ⟨.hbm, 186, rfl⟩
abbrev main_call6_v13 : Ref sig .tc := ⟨.hbm, 187, rfl⟩
abbrev main_call6_v14 : Ref sig .tc := ⟨.hbm, 188, rfl⟩
abbrev main_call6_cst : Ref sig .tc := ⟨.hbm, 189, rfl⟩
abbrev main_call6_v15 : Ref sig .tc := ⟨.hbm, 190, rfl⟩
abbrev main_v34 : Ref sig .tc := ⟨.hbm, 191, rfl⟩
abbrev main_v35 : Ref sig .tc := ⟨.hbm, 192, rfl⟩
abbrev main_v36 : Ref sig .tc := ⟨.hbm, 193, rfl⟩
abbrev main_v37 : Ref sig .tc := ⟨.hbm, 194, rfl⟩
abbrev main_v38 : Ref sig .tc := ⟨.hbm, 195, rfl⟩
abbrev main_call7_c : Ref sig .tc := ⟨.hbm, 196, rfl⟩
abbrev main_call7_v0 : Ref sig .tc := ⟨.hbm, 197, rfl⟩
abbrev main_call7_v1 : Ref sig .tc := ⟨.hbm, 198, rfl⟩
abbrev main_call7_c_0 : Ref sig .tc := ⟨.hbm, 199, rfl⟩
abbrev main_call7_v2 : Ref sig .tc := ⟨.hbm, 200, rfl⟩
abbrev main_call7_v3 : Ref sig .tc := ⟨.hbm, 201, rfl⟩
abbrev main_call7_v4 : Ref sig .tc := ⟨.hbm, 202, rfl⟩
abbrev main_call7_v5 : Ref sig .tc := ⟨.hbm, 203, rfl⟩
abbrev main_call7_c_1 : Ref sig .tc := ⟨.hbm, 204, rfl⟩
abbrev main_call7_c_2 : Ref sig .tc := ⟨.hbm, 205, rfl⟩
abbrev main_call7_v6 : Ref sig .tc := ⟨.hbm, 206, rfl⟩
abbrev main_call7_v7 : Ref sig .tc := ⟨.hbm, 207, rfl⟩
abbrev main_call7_v8 : Ref sig .tc := ⟨.hbm, 208, rfl⟩
abbrev main_call7_v9 : Ref sig .tc := ⟨.hbm, 209, rfl⟩
abbrev main_call7_v10 : Ref sig .tc := ⟨.hbm, 210, rfl⟩
abbrev main_call7_v11 : Ref sig .tc := ⟨.hbm, 211, rfl⟩
abbrev main_call7_c_3 : Ref sig .tc := ⟨.hbm, 212, rfl⟩
abbrev main_call7_v12 : Ref sig .tc := ⟨.hbm, 213, rfl⟩
abbrev main_call7_v13 : Ref sig .tc := ⟨.hbm, 214, rfl⟩
abbrev main_call7_v14 : Ref sig .tc := ⟨.hbm, 215, rfl⟩
abbrev main_call7_cst : Ref sig .tc := ⟨.hbm, 216, rfl⟩
abbrev main_call7_v15 : Ref sig .tc := ⟨.hbm, 217, rfl⟩
abbrev main_v39 : Ref sig .tc := ⟨.hbm, 218, rfl⟩
abbrev main_v40 : Ref sig .tc := ⟨.hbm, 219, rfl⟩
abbrev main_v41 : Ref sig .tc := ⟨.hbm, 220, rfl⟩
abbrev main_v42 : Ref sig .tc := ⟨.hbm, 221, rfl⟩
abbrev main_v43 : Ref sig .tc := ⟨.hbm, 222, rfl⟩
abbrev main_call8_c : Ref sig .tc := ⟨.hbm, 223, rfl⟩
abbrev main_call8_v0 : Ref sig .tc := ⟨.hbm, 224, rfl⟩
abbrev main_call8_v1 : Ref sig .tc := ⟨.hbm, 225, rfl⟩
abbrev main_call8_c_0 : Ref sig .tc := ⟨.hbm, 226, rfl⟩
abbrev main_call8_v2 : Ref sig .tc := ⟨.hbm, 227, rfl⟩
abbrev main_call8_v3 : Ref sig .tc := ⟨.hbm, 228, rfl⟩
abbrev main_call8_v4 : Ref sig .tc := ⟨.hbm, 229, rfl⟩
abbrev main_call8_v5 : Ref sig .tc := ⟨.hbm, 230, rfl⟩
abbrev main_call8_c_1 : Ref sig .tc := ⟨.hbm, 231, rfl⟩
abbrev main_call8_c_2 : Ref sig .tc := ⟨.hbm, 232, rfl⟩
abbrev main_call8_v6 : Ref sig .tc := ⟨.hbm, 233, rfl⟩
abbrev main_call8_v7 : Ref sig .tc := ⟨.hbm, 234, rfl⟩
abbrev main_call8_v8 : Ref sig .tc := ⟨.hbm, 235, rfl⟩
abbrev main_call8_v9 : Ref sig .tc := ⟨.hbm, 236, rfl⟩
abbrev main_call8_v10 : Ref sig .tc := ⟨.hbm, 237, rfl⟩
abbrev main_call8_v11 : Ref sig .tc := ⟨.hbm, 238, rfl⟩
abbrev main_call8_c_3 : Ref sig .tc := ⟨.hbm, 239, rfl⟩
abbrev main_call8_v12 : Ref sig .tc := ⟨.hbm, 240, rfl⟩
abbrev main_call8_v13 : Ref sig .tc := ⟨.hbm, 241, rfl⟩
abbrev main_call8_v14 : Ref sig .tc := ⟨.hbm, 242, rfl⟩
abbrev main_call8_cst : Ref sig .tc := ⟨.hbm, 243, rfl⟩
abbrev main_call8_v15 : Ref sig .tc := ⟨.hbm, 244, rfl⟩
abbrev main_v44 : Ref sig .tc := ⟨.hbm, 245, rfl⟩
abbrev main_v45 : Ref sig .tc := ⟨.hbm, 246, rfl⟩
abbrev main_v46 : Ref sig .tc := ⟨.hbm, 247, rfl⟩
abbrev main_v47 : Ref sig .tc := ⟨.hbm, 248, rfl⟩
abbrev main_v48 : Ref sig .tc := ⟨.hbm, 249, rfl⟩
abbrev main_call9_c : Ref sig .tc := ⟨.hbm, 250, rfl⟩
abbrev main_call9_v0 : Ref sig .tc := ⟨.hbm, 251, rfl⟩
abbrev main_call9_v1 : Ref sig .tc := ⟨.hbm, 252, rfl⟩
abbrev main_call9_c_0 : Ref sig .tc := ⟨.hbm, 253, rfl⟩
abbrev main_call9_v2 : Ref sig .tc := ⟨.hbm, 254, rfl⟩
abbrev main_call9_v3 : Ref sig .tc := ⟨.hbm, 255, rfl⟩
abbrev main_call9_v4 : Ref sig .tc := ⟨.hbm, 256, rfl⟩
abbrev main_call9_v5 : Ref sig .tc := ⟨.hbm, 257, rfl⟩
abbrev main_call9_c_1 : Ref sig .tc := ⟨.hbm, 258, rfl⟩
abbrev main_call9_c_2 : Ref sig .tc := ⟨.hbm, 259, rfl⟩
abbrev main_call9_v6 : Ref sig .tc := ⟨.hbm, 260, rfl⟩
abbrev main_call9_v7 : Ref sig .tc := ⟨.hbm, 261, rfl⟩
abbrev main_call9_v8 : Ref sig .tc := ⟨.hbm, 262, rfl⟩
abbrev main_call9_v9 : Ref sig .tc := ⟨.hbm, 263, rfl⟩
abbrev main_call9_v10 : Ref sig .tc := ⟨.hbm, 264, rfl⟩
abbrev main_call9_v11 : Ref sig .tc := ⟨.hbm, 265, rfl⟩
abbrev main_call9_c_3 : Ref sig .tc := ⟨.hbm, 266, rfl⟩
abbrev main_call9_v12 : Ref sig .tc := ⟨.hbm, 267, rfl⟩
abbrev main_call9_v13 : Ref sig .tc := ⟨.hbm, 268, rfl⟩
abbrev main_call9_v14 : Ref sig .tc := ⟨.hbm, 269, rfl⟩
abbrev main_call9_cst : Ref sig .tc := ⟨.hbm, 270, rfl⟩
abbrev main_call9_v15 : Ref sig .tc := ⟨.hbm, 271, rfl⟩
abbrev main_v49 : Ref sig .tc := ⟨.hbm, 272, rfl⟩
abbrev main_v50 : Ref sig .tc := ⟨.hbm, 273, rfl⟩
abbrev main_v51 : Ref sig .tc := ⟨.hbm, 274, rfl⟩
abbrev main_v52 : Ref sig .tc := ⟨.hbm, 275, rfl⟩
abbrev main_v53 : Ref sig .tc := ⟨.hbm, 276, rfl⟩
abbrev main_call10_c : Ref sig .tc := ⟨.hbm, 277, rfl⟩
abbrev main_call10_v0 : Ref sig .tc := ⟨.hbm, 278, rfl⟩
abbrev main_call10_v1 : Ref sig .tc := ⟨.hbm, 279, rfl⟩
abbrev main_call10_c_0 : Ref sig .tc := ⟨.hbm, 280, rfl⟩
abbrev main_call10_v2 : Ref sig .tc := ⟨.hbm, 281, rfl⟩
abbrev main_call10_v3 : Ref sig .tc := ⟨.hbm, 282, rfl⟩
abbrev main_call10_v4 : Ref sig .tc := ⟨.hbm, 283, rfl⟩
abbrev main_call10_v5 : Ref sig .tc := ⟨.hbm, 284, rfl⟩
abbrev main_call10_c_1 : Ref sig .tc := ⟨.hbm, 285, rfl⟩
abbrev main_call10_c_2 : Ref sig .tc := ⟨.hbm, 286, rfl⟩
abbrev main_call10_v6 : Ref sig .tc := ⟨.hbm, 287, rfl⟩
abbrev main_call10_v7 : Ref sig .tc := ⟨.hbm, 288, rfl⟩
abbrev main_call10_v8 : Ref sig .tc := ⟨.hbm, 289, rfl⟩
abbrev main_call10_v9 : Ref sig .tc := ⟨.hbm, 290, rfl⟩
abbrev main_call10_v10 : Ref sig .tc := ⟨.hbm, 291, rfl⟩
abbrev main_call10_v11 : Ref sig .tc := ⟨.hbm, 292, rfl⟩
abbrev main_call10_c_3 : Ref sig .tc := ⟨.hbm, 293, rfl⟩
abbrev main_call10_v12 : Ref sig .tc := ⟨.hbm, 294, rfl⟩
abbrev main_call10_v13 : Ref sig .tc := ⟨.hbm, 295, rfl⟩
abbrev main_call10_v14 : Ref sig .tc := ⟨.hbm, 296, rfl⟩
abbrev main_call10_cst : Ref sig .tc := ⟨.hbm, 297, rfl⟩
abbrev main_call10_v15 : Ref sig .tc := ⟨.hbm, 298, rfl⟩
abbrev main_v54 : Ref sig .tc := ⟨.hbm, 299, rfl⟩
abbrev main_v55 : Ref sig .tc := ⟨.hbm, 300, rfl⟩
abbrev main_v56 : Ref sig .tc := ⟨.hbm, 301, rfl⟩
abbrev main_v57 : Ref sig .tc := ⟨.hbm, 302, rfl⟩
abbrev main_v58 : Ref sig .tc := ⟨.hbm, 303, rfl⟩
abbrev main_call11_c : Ref sig .tc := ⟨.hbm, 304, rfl⟩
abbrev main_call11_v0 : Ref sig .tc := ⟨.hbm, 305, rfl⟩
abbrev main_call11_v1 : Ref sig .tc := ⟨.hbm, 306, rfl⟩
abbrev main_call11_c_0 : Ref sig .tc := ⟨.hbm, 307, rfl⟩
abbrev main_call11_v2 : Ref sig .tc := ⟨.hbm, 308, rfl⟩
abbrev main_call11_v3 : Ref sig .tc := ⟨.hbm, 309, rfl⟩
abbrev main_call11_v4 : Ref sig .tc := ⟨.hbm, 310, rfl⟩
abbrev main_call11_v5 : Ref sig .tc := ⟨.hbm, 311, rfl⟩
abbrev main_call11_c_1 : Ref sig .tc := ⟨.hbm, 312, rfl⟩
abbrev main_call11_c_2 : Ref sig .tc := ⟨.hbm, 313, rfl⟩
abbrev main_call11_v6 : Ref sig .tc := ⟨.hbm, 314, rfl⟩
abbrev main_call11_v7 : Ref sig .tc := ⟨.hbm, 315, rfl⟩
abbrev main_call11_v8 : Ref sig .tc := ⟨.hbm, 316, rfl⟩
abbrev main_call11_v9 : Ref sig .tc := ⟨.hbm, 317, rfl⟩
abbrev main_call11_v10 : Ref sig .tc := ⟨.hbm, 318, rfl⟩
abbrev main_call11_v11 : Ref sig .tc := ⟨.hbm, 319, rfl⟩
abbrev main_call11_c_3 : Ref sig .tc := ⟨.hbm, 320, rfl⟩
abbrev main_call11_v12 : Ref sig .tc := ⟨.hbm, 321, rfl⟩
abbrev main_call11_v13 : Ref sig .tc := ⟨.hbm, 322, rfl⟩
abbrev main_call11_v14 : Ref sig .tc := ⟨.hbm, 323, rfl⟩
abbrev main_call11_cst : Ref sig .tc := ⟨.hbm, 324, rfl⟩
abbrev main_call11_v15 : Ref sig .tc := ⟨.hbm, 325, rfl⟩
abbrev main_v59 : Ref sig .tc := ⟨.hbm, 326, rfl⟩
abbrev main_v60 : Ref sig .tc := ⟨.hbm, 327, rfl⟩
abbrev main_v61 : Ref sig .tc := ⟨.hbm, 328, rfl⟩
abbrev main_v62 : Ref sig .tc := ⟨.hbm, 329, rfl⟩
abbrev main_v63 : Ref sig .tc := ⟨.hbm, 330, rfl⟩
abbrev main_call12_c : Ref sig .tc := ⟨.hbm, 331, rfl⟩
abbrev main_call12_v0 : Ref sig .tc := ⟨.hbm, 332, rfl⟩
abbrev main_call12_v1 : Ref sig .tc := ⟨.hbm, 333, rfl⟩
abbrev main_call12_c_0 : Ref sig .tc := ⟨.hbm, 334, rfl⟩
abbrev main_call12_v2 : Ref sig .tc := ⟨.hbm, 335, rfl⟩
abbrev main_call12_v3 : Ref sig .tc := ⟨.hbm, 336, rfl⟩
abbrev main_call12_v4 : Ref sig .tc := ⟨.hbm, 337, rfl⟩
abbrev main_call12_v5 : Ref sig .tc := ⟨.hbm, 338, rfl⟩
abbrev main_call12_c_1 : Ref sig .tc := ⟨.hbm, 339, rfl⟩
abbrev main_call12_c_2 : Ref sig .tc := ⟨.hbm, 340, rfl⟩
abbrev main_call12_v6 : Ref sig .tc := ⟨.hbm, 341, rfl⟩
abbrev main_call12_v7 : Ref sig .tc := ⟨.hbm, 342, rfl⟩
abbrev main_call12_v8 : Ref sig .tc := ⟨.hbm, 343, rfl⟩
abbrev main_call12_v9 : Ref sig .tc := ⟨.hbm, 344, rfl⟩
abbrev main_call12_v10 : Ref sig .tc := ⟨.hbm, 345, rfl⟩
abbrev main_call12_v11 : Ref sig .tc := ⟨.hbm, 346, rfl⟩
abbrev main_call12_c_3 : Ref sig .tc := ⟨.hbm, 347, rfl⟩
abbrev main_call12_v12 : Ref sig .tc := ⟨.hbm, 348, rfl⟩
abbrev main_call12_v13 : Ref sig .tc := ⟨.hbm, 349, rfl⟩
abbrev main_call12_v14 : Ref sig .tc := ⟨.hbm, 350, rfl⟩
abbrev main_call12_cst : Ref sig .tc := ⟨.hbm, 351, rfl⟩
abbrev main_call12_v15 : Ref sig .tc := ⟨.hbm, 352, rfl⟩
abbrev main_v64 : Ref sig .tc := ⟨.hbm, 353, rfl⟩
abbrev main_v65 : Ref sig .tc := ⟨.hbm, 354, rfl⟩
abbrev main_v66 : Ref sig .tc := ⟨.hbm, 355, rfl⟩
abbrev main_v67 : Ref sig .tc := ⟨.hbm, 356, rfl⟩
abbrev main_v68 : Ref sig .tc := ⟨.hbm, 357, rfl⟩
abbrev main_call13_c : Ref sig .tc := ⟨.hbm, 358, rfl⟩
abbrev main_call13_v0 : Ref sig .tc := ⟨.hbm, 359, rfl⟩
abbrev main_call13_v1 : Ref sig .tc := ⟨.hbm, 360, rfl⟩
abbrev main_call13_c_0 : Ref sig .tc := ⟨.hbm, 361, rfl⟩
abbrev main_call13_v2 : Ref sig .tc := ⟨.hbm, 362, rfl⟩
abbrev main_call13_v3 : Ref sig .tc := ⟨.hbm, 363, rfl⟩
abbrev main_call13_v4 : Ref sig .tc := ⟨.hbm, 364, rfl⟩
abbrev main_call13_v5 : Ref sig .tc := ⟨.hbm, 365, rfl⟩
abbrev main_call13_c_1 : Ref sig .tc := ⟨.hbm, 366, rfl⟩
abbrev main_call13_c_2 : Ref sig .tc := ⟨.hbm, 367, rfl⟩
abbrev main_call13_v6 : Ref sig .tc := ⟨.hbm, 368, rfl⟩
abbrev main_call13_v7 : Ref sig .tc := ⟨.hbm, 369, rfl⟩
abbrev main_call13_v8 : Ref sig .tc := ⟨.hbm, 370, rfl⟩
abbrev main_call13_v9 : Ref sig .tc := ⟨.hbm, 371, rfl⟩
abbrev main_call13_v10 : Ref sig .tc := ⟨.hbm, 372, rfl⟩
abbrev main_call13_v11 : Ref sig .tc := ⟨.hbm, 373, rfl⟩
abbrev main_call13_c_3 : Ref sig .tc := ⟨.hbm, 374, rfl⟩
abbrev main_call13_v12 : Ref sig .tc := ⟨.hbm, 375, rfl⟩
abbrev main_call13_v13 : Ref sig .tc := ⟨.hbm, 376, rfl⟩
abbrev main_call13_v14 : Ref sig .tc := ⟨.hbm, 377, rfl⟩
abbrev main_call13_cst : Ref sig .tc := ⟨.hbm, 378, rfl⟩
abbrev main_call13_v15 : Ref sig .tc := ⟨.hbm, 379, rfl⟩
abbrev main_v69 : Ref sig .tc := ⟨.hbm, 380, rfl⟩
abbrev main_v70 : Ref sig .tc := ⟨.hbm, 381, rfl⟩
abbrev main_v71 : Ref sig .tc := ⟨.hbm, 382, rfl⟩
abbrev main_v72 : Ref sig .tc := ⟨.hbm, 383, rfl⟩
abbrev main_v73 : Ref sig .tc := ⟨.hbm, 384, rfl⟩
abbrev main_call14_c : Ref sig .tc := ⟨.hbm, 385, rfl⟩
abbrev main_call14_v0 : Ref sig .tc := ⟨.hbm, 386, rfl⟩
abbrev main_call14_v1 : Ref sig .tc := ⟨.hbm, 387, rfl⟩
abbrev main_call14_c_0 : Ref sig .tc := ⟨.hbm, 388, rfl⟩
abbrev main_call14_v2 : Ref sig .tc := ⟨.hbm, 389, rfl⟩
abbrev main_call14_v3 : Ref sig .tc := ⟨.hbm, 390, rfl⟩
abbrev main_call14_v4 : Ref sig .tc := ⟨.hbm, 391, rfl⟩
abbrev main_call14_v5 : Ref sig .tc := ⟨.hbm, 392, rfl⟩
abbrev main_call14_c_1 : Ref sig .tc := ⟨.hbm, 393, rfl⟩
abbrev main_call14_c_2 : Ref sig .tc := ⟨.hbm, 394, rfl⟩
abbrev main_call14_v6 : Ref sig .tc := ⟨.hbm, 395, rfl⟩
abbrev main_call14_v7 : Ref sig .tc := ⟨.hbm, 396, rfl⟩
abbrev main_call14_v8 : Ref sig .tc := ⟨.hbm, 397, rfl⟩
abbrev main_call14_v9 : Ref sig .tc := ⟨.hbm, 398, rfl⟩
abbrev main_call14_v10 : Ref sig .tc := ⟨.hbm, 399, rfl⟩
abbrev main_call14_v11 : Ref sig .tc := ⟨.hbm, 400, rfl⟩
abbrev main_call14_c_3 : Ref sig .tc := ⟨.hbm, 401, rfl⟩
abbrev main_call14_v12 : Ref sig .tc := ⟨.hbm, 402, rfl⟩
abbrev main_call14_v13 : Ref sig .tc := ⟨.hbm, 403, rfl⟩
abbrev main_call14_v14 : Ref sig .tc := ⟨.hbm, 404, rfl⟩
abbrev main_call14_cst : Ref sig .tc := ⟨.hbm, 405, rfl⟩
abbrev main_call14_v15 : Ref sig .tc := ⟨.hbm, 406, rfl⟩
abbrev main_v74 : Ref sig .tc := ⟨.hbm, 407, rfl⟩
abbrev main_v75 : Ref sig .tc := ⟨.hbm, 408, rfl⟩
abbrev main_v76 : Ref sig .tc := ⟨.hbm, 409, rfl⟩
abbrev main_v77 : Ref sig .tc := ⟨.hbm, 410, rfl⟩
abbrev main_v78 : Ref sig .tc := ⟨.hbm, 411, rfl⟩
abbrev main_call15_c : Ref sig .tc := ⟨.hbm, 412, rfl⟩
abbrev main_call15_v0 : Ref sig .tc := ⟨.hbm, 413, rfl⟩
abbrev main_call15_v1 : Ref sig .tc := ⟨.hbm, 414, rfl⟩
abbrev main_call15_c_0 : Ref sig .tc := ⟨.hbm, 415, rfl⟩
abbrev main_call15_v2 : Ref sig .tc := ⟨.hbm, 416, rfl⟩
abbrev main_call15_v3 : Ref sig .tc := ⟨.hbm, 417, rfl⟩
abbrev main_call15_v4 : Ref sig .tc := ⟨.hbm, 418, rfl⟩
abbrev main_call15_v5 : Ref sig .tc := ⟨.hbm, 419, rfl⟩
abbrev main_call15_c_1 : Ref sig .tc := ⟨.hbm, 420, rfl⟩
abbrev main_call15_c_2 : Ref sig .tc := ⟨.hbm, 421, rfl⟩
abbrev main_call15_v6 : Ref sig .tc := ⟨.hbm, 422, rfl⟩
abbrev main_call15_v7 : Ref sig .tc := ⟨.hbm, 423, rfl⟩
abbrev main_call15_v8 : Ref sig .tc := ⟨.hbm, 424, rfl⟩
abbrev main_call15_v9 : Ref sig .tc := ⟨.hbm, 425, rfl⟩
abbrev main_call15_v10 : Ref sig .tc := ⟨.hbm, 426, rfl⟩
abbrev main_call15_v11 : Ref sig .tc := ⟨.hbm, 427, rfl⟩
abbrev main_call15_c_3 : Ref sig .tc := ⟨.hbm, 428, rfl⟩
abbrev main_call15_v12 : Ref sig .tc := ⟨.hbm, 429, rfl⟩
abbrev main_call15_v13 : Ref sig .tc := ⟨.hbm, 430, rfl⟩
abbrev main_call15_v14 : Ref sig .tc := ⟨.hbm, 431, rfl⟩
abbrev main_call15_cst : Ref sig .tc := ⟨.hbm, 432, rfl⟩
abbrev main_call15_v15 : Ref sig .tc := ⟨.hbm, 433, rfl⟩
abbrev main_v79 : Ref sig .tc := ⟨.hbm, 434, rfl⟩
abbrev main_v80 : Ref sig .tc := ⟨.hbm, 435, rfl⟩
abbrev main_v81 : Ref sig .tc := ⟨.hbm, 436, rfl⟩
abbrev main_v82 : Ref sig .tc := ⟨.hbm, 437, rfl⟩
abbrev main_v83 : Ref sig .tc := ⟨.hbm, 438, rfl⟩
abbrev main_call16_c : Ref sig .tc := ⟨.hbm, 439, rfl⟩
abbrev main_call16_v0 : Ref sig .tc := ⟨.hbm, 440, rfl⟩
abbrev main_call16_v1 : Ref sig .tc := ⟨.hbm, 441, rfl⟩
abbrev main_call16_c_0 : Ref sig .tc := ⟨.hbm, 442, rfl⟩
abbrev main_call16_v2 : Ref sig .tc := ⟨.hbm, 443, rfl⟩
abbrev main_call16_v3 : Ref sig .tc := ⟨.hbm, 444, rfl⟩
abbrev main_call16_v4 : Ref sig .tc := ⟨.hbm, 445, rfl⟩
abbrev main_call16_v5 : Ref sig .tc := ⟨.hbm, 446, rfl⟩
abbrev main_call16_c_1 : Ref sig .tc := ⟨.hbm, 447, rfl⟩
abbrev main_call16_c_2 : Ref sig .tc := ⟨.hbm, 448, rfl⟩
abbrev main_call16_v6 : Ref sig .tc := ⟨.hbm, 449, rfl⟩
abbrev main_call16_v7 : Ref sig .tc := ⟨.hbm, 450, rfl⟩
abbrev main_call16_v8 : Ref sig .tc := ⟨.hbm, 451, rfl⟩
abbrev main_call16_v9 : Ref sig .tc := ⟨.hbm, 452, rfl⟩
abbrev main_call16_v10 : Ref sig .tc := ⟨.hbm, 453, rfl⟩
abbrev main_call16_v11 : Ref sig .tc := ⟨.hbm, 454, rfl⟩
abbrev main_call16_c_3 : Ref sig .tc := ⟨.hbm, 455, rfl⟩
abbrev main_call16_v12 : Ref sig .tc := ⟨.hbm, 456, rfl⟩
abbrev main_call16_v13 : Ref sig .tc := ⟨.hbm, 457, rfl⟩
abbrev main_call16_v14 : Ref sig .tc := ⟨.hbm, 458, rfl⟩
abbrev main_call16_cst : Ref sig .tc := ⟨.hbm, 459, rfl⟩
abbrev main_call16_v15 : Ref sig .tc := ⟨.hbm, 460, rfl⟩
abbrev main_v84 : Ref sig .tc := ⟨.hbm, 461, rfl⟩
abbrev main_v85 : Ref sig .tc := ⟨.hbm, 462, rfl⟩
abbrev main_v86 : Ref sig .tc := ⟨.hbm, 463, rfl⟩
abbrev main_v87 : Ref sig .tc := ⟨.hbm, 464, rfl⟩
abbrev main_v88 : Ref sig .tc := ⟨.hbm, 465, rfl⟩
abbrev main_call17_c : Ref sig .tc := ⟨.hbm, 466, rfl⟩
abbrev main_call17_v0 : Ref sig .tc := ⟨.hbm, 467, rfl⟩
abbrev main_call17_v1 : Ref sig .tc := ⟨.hbm, 468, rfl⟩
abbrev main_call17_c_0 : Ref sig .tc := ⟨.hbm, 469, rfl⟩
abbrev main_call17_v2 : Ref sig .tc := ⟨.hbm, 470, rfl⟩
abbrev main_call17_v3 : Ref sig .tc := ⟨.hbm, 471, rfl⟩
abbrev main_call17_v4 : Ref sig .tc := ⟨.hbm, 472, rfl⟩
abbrev main_call17_v5 : Ref sig .tc := ⟨.hbm, 473, rfl⟩
abbrev main_call17_c_1 : Ref sig .tc := ⟨.hbm, 474, rfl⟩
abbrev main_call17_c_2 : Ref sig .tc := ⟨.hbm, 475, rfl⟩
abbrev main_call17_v6 : Ref sig .tc := ⟨.hbm, 476, rfl⟩
abbrev main_call17_v7 : Ref sig .tc := ⟨.hbm, 477, rfl⟩
abbrev main_call17_v8 : Ref sig .tc := ⟨.hbm, 478, rfl⟩
abbrev main_call17_v9 : Ref sig .tc := ⟨.hbm, 479, rfl⟩
abbrev main_call17_v10 : Ref sig .tc := ⟨.hbm, 480, rfl⟩
abbrev main_call17_v11 : Ref sig .tc := ⟨.hbm, 481, rfl⟩
abbrev main_call17_c_3 : Ref sig .tc := ⟨.hbm, 482, rfl⟩
abbrev main_call17_v12 : Ref sig .tc := ⟨.hbm, 483, rfl⟩
abbrev main_call17_v13 : Ref sig .tc := ⟨.hbm, 484, rfl⟩
abbrev main_call17_v14 : Ref sig .tc := ⟨.hbm, 485, rfl⟩
abbrev main_call17_cst : Ref sig .tc := ⟨.hbm, 486, rfl⟩
abbrev main_call17_v15 : Ref sig .tc := ⟨.hbm, 487, rfl⟩
abbrev main_v89 : Ref sig .tc := ⟨.hbm, 488, rfl⟩
abbrev main_v90 : Ref sig .tc := ⟨.hbm, 489, rfl⟩
abbrev main_v91 : Ref sig .tc := ⟨.hbm, 490, rfl⟩
abbrev main_v92 : Ref sig .tc := ⟨.hbm, 491, rfl⟩
abbrev main_v93 : Ref sig .tc := ⟨.hbm, 492, rfl⟩
abbrev main_call18_c : Ref sig .tc := ⟨.hbm, 493, rfl⟩
abbrev main_call18_v0 : Ref sig .tc := ⟨.hbm, 494, rfl⟩
abbrev main_call18_v1 : Ref sig .tc := ⟨.hbm, 495, rfl⟩
abbrev main_call18_c_0 : Ref sig .tc := ⟨.hbm, 496, rfl⟩
abbrev main_call18_v2 : Ref sig .tc := ⟨.hbm, 497, rfl⟩
abbrev main_call18_v3 : Ref sig .tc := ⟨.hbm, 498, rfl⟩
abbrev main_call18_v4 : Ref sig .tc := ⟨.hbm, 499, rfl⟩
abbrev main_call18_v5 : Ref sig .tc := ⟨.hbm, 500, rfl⟩
abbrev main_call18_c_1 : Ref sig .tc := ⟨.hbm, 501, rfl⟩
abbrev main_call18_c_2 : Ref sig .tc := ⟨.hbm, 502, rfl⟩
abbrev main_call18_v6 : Ref sig .tc := ⟨.hbm, 503, rfl⟩
abbrev main_call18_v7 : Ref sig .tc := ⟨.hbm, 504, rfl⟩
abbrev main_call18_v8 : Ref sig .tc := ⟨.hbm, 505, rfl⟩
abbrev main_call18_v9 : Ref sig .tc := ⟨.hbm, 506, rfl⟩
abbrev main_call18_v10 : Ref sig .tc := ⟨.hbm, 507, rfl⟩
abbrev main_call18_v11 : Ref sig .tc := ⟨.hbm, 508, rfl⟩
abbrev main_call18_c_3 : Ref sig .tc := ⟨.hbm, 509, rfl⟩
abbrev main_call18_v12 : Ref sig .tc := ⟨.hbm, 510, rfl⟩
abbrev main_call18_v13 : Ref sig .tc := ⟨.hbm, 511, rfl⟩
abbrev main_call18_v14 : Ref sig .tc := ⟨.hbm, 512, rfl⟩
abbrev main_call18_cst : Ref sig .tc := ⟨.hbm, 513, rfl⟩
abbrev main_call18_v15 : Ref sig .tc := ⟨.hbm, 514, rfl⟩
abbrev main_v94 : Ref sig .tc := ⟨.hbm, 515, rfl⟩
abbrev main_v95 : Ref sig .tc := ⟨.hbm, 516, rfl⟩
abbrev main_v96 : Ref sig .tc := ⟨.hbm, 517, rfl⟩
abbrev main_v97 : Ref sig .tc := ⟨.hbm, 518, rfl⟩
abbrev main_v98 : Ref sig .tc := ⟨.hbm, 519, rfl⟩
abbrev main_call19_c : Ref sig .tc := ⟨.hbm, 520, rfl⟩
abbrev main_call19_v0 : Ref sig .tc := ⟨.hbm, 521, rfl⟩
abbrev main_call19_v1 : Ref sig .tc := ⟨.hbm, 522, rfl⟩
abbrev main_call19_c_0 : Ref sig .tc := ⟨.hbm, 523, rfl⟩
abbrev main_call19_v2 : Ref sig .tc := ⟨.hbm, 524, rfl⟩
abbrev main_call19_v3 : Ref sig .tc := ⟨.hbm, 525, rfl⟩
abbrev main_call19_v4 : Ref sig .tc := ⟨.hbm, 526, rfl⟩
abbrev main_call19_v5 : Ref sig .tc := ⟨.hbm, 527, rfl⟩
abbrev main_call19_c_1 : Ref sig .tc := ⟨.hbm, 528, rfl⟩
abbrev main_call19_c_2 : Ref sig .tc := ⟨.hbm, 529, rfl⟩
abbrev main_call19_v6 : Ref sig .tc := ⟨.hbm, 530, rfl⟩
abbrev main_call19_v7 : Ref sig .tc := ⟨.hbm, 531, rfl⟩
abbrev main_call19_v8 : Ref sig .tc := ⟨.hbm, 532, rfl⟩
abbrev main_call19_v9 : Ref sig .tc := ⟨.hbm, 533, rfl⟩
abbrev main_call19_v10 : Ref sig .tc := ⟨.hbm, 534, rfl⟩
abbrev main_call19_v11 : Ref sig .tc := ⟨.hbm, 535, rfl⟩
abbrev main_call19_c_3 : Ref sig .tc := ⟨.hbm, 536, rfl⟩
abbrev main_call19_v12 : Ref sig .tc := ⟨.hbm, 537, rfl⟩
abbrev main_call19_v13 : Ref sig .tc := ⟨.hbm, 538, rfl⟩
abbrev main_call19_v14 : Ref sig .tc := ⟨.hbm, 539, rfl⟩
abbrev main_call19_cst : Ref sig .tc := ⟨.hbm, 540, rfl⟩
abbrev main_call19_v15 : Ref sig .tc := ⟨.hbm, 541, rfl⟩
abbrev main_v99 : Ref sig .tc := ⟨.hbm, 542, rfl⟩
abbrev main_v100 : Ref sig .tc := ⟨.hbm, 543, rfl⟩
abbrev main_v101 : Ref sig .tc := ⟨.hbm, 544, rfl⟩
abbrev main_v102 : Ref sig .tc := ⟨.hbm, 545, rfl⟩
abbrev main_v103 : Ref sig .tc := ⟨.hbm, 546, rfl⟩
abbrev main_call20_c : Ref sig .tc := ⟨.hbm, 547, rfl⟩
abbrev main_call20_v0 : Ref sig .tc := ⟨.hbm, 548, rfl⟩
abbrev main_call20_v1 : Ref sig .tc := ⟨.hbm, 549, rfl⟩
abbrev main_call20_c_0 : Ref sig .tc := ⟨.hbm, 550, rfl⟩
abbrev main_call20_v2 : Ref sig .tc := ⟨.hbm, 551, rfl⟩
abbrev main_call20_v3 : Ref sig .tc := ⟨.hbm, 552, rfl⟩
abbrev main_call20_v4 : Ref sig .tc := ⟨.hbm, 553, rfl⟩
abbrev main_call20_v5 : Ref sig .tc := ⟨.hbm, 554, rfl⟩
abbrev main_call20_c_1 : Ref sig .tc := ⟨.hbm, 555, rfl⟩
abbrev main_call20_c_2 : Ref sig .tc := ⟨.hbm, 556, rfl⟩
abbrev main_call20_v6 : Ref sig .tc := ⟨.hbm, 557, rfl⟩
abbrev main_call20_v7 : Ref sig .tc := ⟨.hbm, 558, rfl⟩
abbrev main_call20_v8 : Ref sig .tc := ⟨.hbm, 559, rfl⟩
abbrev main_call20_v9 : Ref sig .tc := ⟨.hbm, 560, rfl⟩
abbrev main_call20_v10 : Ref sig .tc := ⟨.hbm, 561, rfl⟩
abbrev main_call20_v11 : Ref sig .tc := ⟨.hbm, 562, rfl⟩
abbrev main_call20_c_3 : Ref sig .tc := ⟨.hbm, 563, rfl⟩
abbrev main_call20_v12 : Ref sig .tc := ⟨.hbm, 564, rfl⟩
abbrev main_call20_v13 : Ref sig .tc := ⟨.hbm, 565, rfl⟩
abbrev main_call20_v14 : Ref sig .tc := ⟨.hbm, 566, rfl⟩
abbrev main_call20_cst : Ref sig .tc := ⟨.hbm, 567, rfl⟩
abbrev main_call20_v15 : Ref sig .tc := ⟨.hbm, 568, rfl⟩
abbrev main_v104 : Ref sig .tc := ⟨.hbm, 569, rfl⟩
abbrev main_v105 : Ref sig .tc := ⟨.hbm, 570, rfl⟩
abbrev main_v106 : Ref sig .tc := ⟨.hbm, 571, rfl⟩
abbrev main_v107 : Ref sig .tc := ⟨.hbm, 572, rfl⟩
abbrev main_v108 : Ref sig .tc := ⟨.hbm, 573, rfl⟩
abbrev main_call21_c : Ref sig .tc := ⟨.hbm, 574, rfl⟩
abbrev main_call21_v0 : Ref sig .tc := ⟨.hbm, 575, rfl⟩
abbrev main_call21_v1 : Ref sig .tc := ⟨.hbm, 576, rfl⟩
abbrev main_call21_c_0 : Ref sig .tc := ⟨.hbm, 577, rfl⟩
abbrev main_call21_v2 : Ref sig .tc := ⟨.hbm, 578, rfl⟩
abbrev main_call21_v3 : Ref sig .tc := ⟨.hbm, 579, rfl⟩
abbrev main_call21_v4 : Ref sig .tc := ⟨.hbm, 580, rfl⟩
abbrev main_call21_v5 : Ref sig .tc := ⟨.hbm, 581, rfl⟩
abbrev main_call21_c_1 : Ref sig .tc := ⟨.hbm, 582, rfl⟩
abbrev main_call21_c_2 : Ref sig .tc := ⟨.hbm, 583, rfl⟩
abbrev main_call21_v6 : Ref sig .tc := ⟨.hbm, 584, rfl⟩
abbrev main_call21_v7 : Ref sig .tc := ⟨.hbm, 585, rfl⟩
abbrev main_call21_v8 : Ref sig .tc := ⟨.hbm, 586, rfl⟩
abbrev main_call21_v9 : Ref sig .tc := ⟨.hbm, 587, rfl⟩
abbrev main_call21_v10 : Ref sig .tc := ⟨.hbm, 588, rfl⟩
abbrev main_call21_v11 : Ref sig .tc := ⟨.hbm, 589, rfl⟩
abbrev main_call21_c_3 : Ref sig .tc := ⟨.hbm, 590, rfl⟩
abbrev main_call21_v12 : Ref sig .tc := ⟨.hbm, 591, rfl⟩
abbrev main_call21_v13 : Ref sig .tc := ⟨.hbm, 592, rfl⟩
abbrev main_call21_v14 : Ref sig .tc := ⟨.hbm, 593, rfl⟩
abbrev main_call21_cst : Ref sig .tc := ⟨.hbm, 594, rfl⟩
abbrev main_call21_v15 : Ref sig .tc := ⟨.hbm, 595, rfl⟩
abbrev main_v109 : Ref sig .tc := ⟨.hbm, 596, rfl⟩
abbrev main_v110 : Ref sig .tc := ⟨.hbm, 597, rfl⟩
abbrev main_v111 : Ref sig .tc := ⟨.hbm, 598, rfl⟩
abbrev main_v112 : Ref sig .tc := ⟨.hbm, 599, rfl⟩
abbrev main_v113 : Ref sig .tc := ⟨.hbm, 600, rfl⟩
abbrev main_call22_c : Ref sig .tc := ⟨.hbm, 601, rfl⟩
abbrev main_call22_v0 : Ref sig .tc := ⟨.hbm, 602, rfl⟩
abbrev main_call22_v1 : Ref sig .tc := ⟨.hbm, 603, rfl⟩
abbrev main_call22_c_0 : Ref sig .tc := ⟨.hbm, 604, rfl⟩
abbrev main_call22_v2 : Ref sig .tc := ⟨.hbm, 605, rfl⟩
abbrev main_call22_v3 : Ref sig .tc := ⟨.hbm, 606, rfl⟩
abbrev main_call22_v4 : Ref sig .tc := ⟨.hbm, 607, rfl⟩
abbrev main_call22_v5 : Ref sig .tc := ⟨.hbm, 608, rfl⟩
abbrev main_call22_c_1 : Ref sig .tc := ⟨.hbm, 609, rfl⟩
abbrev main_call22_c_2 : Ref sig .tc := ⟨.hbm, 610, rfl⟩
abbrev main_call22_v6 : Ref sig .tc := ⟨.hbm, 611, rfl⟩
abbrev main_call22_v7 : Ref sig .tc := ⟨.hbm, 612, rfl⟩
abbrev main_call22_v8 : Ref sig .tc := ⟨.hbm, 613, rfl⟩
abbrev main_call22_v9 : Ref sig .tc := ⟨.hbm, 614, rfl⟩
abbrev main_call22_v10 : Ref sig .tc := ⟨.hbm, 615, rfl⟩
abbrev main_call22_v11 : Ref sig .tc := ⟨.hbm, 616, rfl⟩
abbrev main_call22_c_3 : Ref sig .tc := ⟨.hbm, 617, rfl⟩
abbrev main_call22_v12 : Ref sig .tc := ⟨.hbm, 618, rfl⟩
abbrev main_call22_v13 : Ref sig .tc := ⟨.hbm, 619, rfl⟩
abbrev main_call22_v14 : Ref sig .tc := ⟨.hbm, 620, rfl⟩
abbrev main_call22_cst : Ref sig .tc := ⟨.hbm, 621, rfl⟩
abbrev main_call22_v15 : Ref sig .tc := ⟨.hbm, 622, rfl⟩
abbrev main_v114 : Ref sig .tc := ⟨.hbm, 623, rfl⟩
abbrev main_v115 : Ref sig .tc := ⟨.hbm, 624, rfl⟩
abbrev main_v116 : Ref sig .tc := ⟨.hbm, 625, rfl⟩
abbrev main_v117 : Ref sig .tc := ⟨.hbm, 626, rfl⟩
abbrev main_v118 : Ref sig .tc := ⟨.hbm, 627, rfl⟩
abbrev main_call23_c : Ref sig .tc := ⟨.hbm, 628, rfl⟩
abbrev main_call23_v0 : Ref sig .tc := ⟨.hbm, 629, rfl⟩
abbrev main_call23_v1 : Ref sig .tc := ⟨.hbm, 630, rfl⟩
abbrev main_call23_c_0 : Ref sig .tc := ⟨.hbm, 631, rfl⟩
abbrev main_call23_v2 : Ref sig .tc := ⟨.hbm, 632, rfl⟩
abbrev main_call23_v3 : Ref sig .tc := ⟨.hbm, 633, rfl⟩
abbrev main_call23_v4 : Ref sig .tc := ⟨.hbm, 634, rfl⟩
abbrev main_call23_v5 : Ref sig .tc := ⟨.hbm, 635, rfl⟩
abbrev main_call23_c_1 : Ref sig .tc := ⟨.hbm, 636, rfl⟩
abbrev main_call23_c_2 : Ref sig .tc := ⟨.hbm, 637, rfl⟩
abbrev main_call23_v6 : Ref sig .tc := ⟨.hbm, 638, rfl⟩
abbrev main_call23_v7 : Ref sig .tc := ⟨.hbm, 639, rfl⟩
abbrev main_call23_v8 : Ref sig .tc := ⟨.hbm, 640, rfl⟩
abbrev main_call23_v9 : Ref sig .tc := ⟨.hbm, 641, rfl⟩
abbrev main_call23_v10 : Ref sig .tc := ⟨.hbm, 642, rfl⟩
abbrev main_call23_v11 : Ref sig .tc := ⟨.hbm, 643, rfl⟩
abbrev main_call23_c_3 : Ref sig .tc := ⟨.hbm, 644, rfl⟩
abbrev main_call23_v12 : Ref sig .tc := ⟨.hbm, 645, rfl⟩
abbrev main_call23_v13 : Ref sig .tc := ⟨.hbm, 646, rfl⟩
abbrev main_call23_v14 : Ref sig .tc := ⟨.hbm, 647, rfl⟩
abbrev main_call23_cst : Ref sig .tc := ⟨.hbm, 648, rfl⟩
abbrev main_call23_v15 : Ref sig .tc := ⟨.hbm, 649, rfl⟩
abbrev main_v119 : Ref sig .tc := ⟨.hbm, 650, rfl⟩
abbrev main_v120 : Ref sig .tc := ⟨.hbm, 651, rfl⟩
abbrev main_v121 : Ref sig .tc := ⟨.hbm, 652, rfl⟩
abbrev main_v122 : Ref sig .tc := ⟨.hbm, 653, rfl⟩
abbrev main_v123 : Ref sig .tc := ⟨.hbm, 654, rfl⟩
abbrev main_call24_c : Ref sig .tc := ⟨.hbm, 655, rfl⟩
abbrev main_call24_v0 : Ref sig .tc := ⟨.hbm, 656, rfl⟩
abbrev main_call24_v1 : Ref sig .tc := ⟨.hbm, 657, rfl⟩
abbrev main_call24_c_0 : Ref sig .tc := ⟨.hbm, 658, rfl⟩
abbrev main_call24_v2 : Ref sig .tc := ⟨.hbm, 659, rfl⟩
abbrev main_call24_v3 : Ref sig .tc := ⟨.hbm, 660, rfl⟩
abbrev main_call24_v4 : Ref sig .tc := ⟨.hbm, 661, rfl⟩
abbrev main_call24_v5 : Ref sig .tc := ⟨.hbm, 662, rfl⟩
abbrev main_call24_c_1 : Ref sig .tc := ⟨.hbm, 663, rfl⟩
abbrev main_call24_c_2 : Ref sig .tc := ⟨.hbm, 664, rfl⟩
abbrev main_call24_v6 : Ref sig .tc := ⟨.hbm, 665, rfl⟩
abbrev main_call24_v7 : Ref sig .tc := ⟨.hbm, 666, rfl⟩
abbrev main_call24_v8 : Ref sig .tc := ⟨.hbm, 667, rfl⟩
abbrev main_call24_v9 : Ref sig .tc := ⟨.hbm, 668, rfl⟩
abbrev main_call24_v10 : Ref sig .tc := ⟨.hbm, 669, rfl⟩
abbrev main_call24_v11 : Ref sig .tc := ⟨.hbm, 670, rfl⟩
abbrev main_call24_c_3 : Ref sig .tc := ⟨.hbm, 671, rfl⟩
abbrev main_call24_v12 : Ref sig .tc := ⟨.hbm, 672, rfl⟩
abbrev main_call24_v13 : Ref sig .tc := ⟨.hbm, 673, rfl⟩
abbrev main_call24_v14 : Ref sig .tc := ⟨.hbm, 674, rfl⟩
abbrev main_call24_cst : Ref sig .tc := ⟨.hbm, 675, rfl⟩
abbrev main_call24_v15 : Ref sig .tc := ⟨.hbm, 676, rfl⟩
abbrev main_v124 : Ref sig .tc := ⟨.hbm, 677, rfl⟩
abbrev main_v125 : Ref sig .tc := ⟨.hbm, 678, rfl⟩
abbrev main_v126 : Ref sig .tc := ⟨.hbm, 679, rfl⟩
abbrev main_v127 : Ref sig .tc := ⟨.hbm, 680, rfl⟩
abbrev main_v128 : Ref sig .tc := ⟨.hbm, 681, rfl⟩
abbrev main_call25_c : Ref sig .tc := ⟨.hbm, 682, rfl⟩
abbrev main_call25_v0 : Ref sig .tc := ⟨.hbm, 683, rfl⟩
abbrev main_call25_v1 : Ref sig .tc := ⟨.hbm, 684, rfl⟩
abbrev main_call25_c_0 : Ref sig .tc := ⟨.hbm, 685, rfl⟩
abbrev main_call25_v2 : Ref sig .tc := ⟨.hbm, 686, rfl⟩
abbrev main_call25_v3 : Ref sig .tc := ⟨.hbm, 687, rfl⟩
abbrev main_call25_v4 : Ref sig .tc := ⟨.hbm, 688, rfl⟩
abbrev main_call25_v5 : Ref sig .tc := ⟨.hbm, 689, rfl⟩
abbrev main_call25_c_1 : Ref sig .tc := ⟨.hbm, 690, rfl⟩
abbrev main_call25_c_2 : Ref sig .tc := ⟨.hbm, 691, rfl⟩
abbrev main_call25_v6 : Ref sig .tc := ⟨.hbm, 692, rfl⟩
abbrev main_call25_v7 : Ref sig .tc := ⟨.hbm, 693, rfl⟩
abbrev main_call25_v8 : Ref sig .tc := ⟨.hbm, 694, rfl⟩
abbrev main_call25_v9 : Ref sig .tc := ⟨.hbm, 695, rfl⟩
abbrev main_call25_v10 : Ref sig .tc := ⟨.hbm, 696, rfl⟩
abbrev main_call25_v11 : Ref sig .tc := ⟨.hbm, 697, rfl⟩
abbrev main_call25_c_3 : Ref sig .tc := ⟨.hbm, 698, rfl⟩
abbrev main_call25_v12 : Ref sig .tc := ⟨.hbm, 699, rfl⟩
abbrev main_call25_v13 : Ref sig .tc := ⟨.hbm, 700, rfl⟩
abbrev main_call25_v14 : Ref sig .tc := ⟨.hbm, 701, rfl⟩
abbrev main_call25_cst : Ref sig .tc := ⟨.hbm, 702, rfl⟩
abbrev main_call25_v15 : Ref sig .tc := ⟨.hbm, 703, rfl⟩
abbrev main_v129 : Ref sig .tc := ⟨.hbm, 704, rfl⟩
abbrev main_v130 : Ref sig .tc := ⟨.hbm, 705, rfl⟩
abbrev main_v131 : Ref sig .tc := ⟨.hbm, 706, rfl⟩
abbrev main_v132 : Ref sig .tc := ⟨.hbm, 707, rfl⟩
abbrev main_v133 : Ref sig .tc := ⟨.hbm, 708, rfl⟩

abbrev nD : Nat := 1
abbrev τ : Topo := Topo.v7x

variable {F : FTy → Type} [FloatOps F]
-- ==== Proof.Values.lean ====
/-
  What the kernel computes, in plain terms, over arrays of any element type.  The table is one flat list of 2600000 rows
  of 16 numbers, row `v + 100000 f` being entry `v` of field `f`.  The result is one flat list of 81920 groups of 429
  numbers: group `p` holds the 16 numbers of each of its 26 looked-up rows, one field after another, and then its own
  13 numeric features (`flatAt`).  The lemmas below say what one stretch of 128 groups holds at each stage
  on its way through a tile's own memory, and that a store of 16 consecutive lanes extends a filled stretch (`Filled`).
-/
module

public import Idealize.ShloMosaic.PureOps
public import Idealize.ShloMosaic.Lib.Batch

@[expose] public section

namespace Cert.Proof.Values

open Idealize.ShloMosaic

/-- Index `k` of a list of `n`, taken round the end, so that it is an index at every `k`. -/
def ix1 (n : ℕ) [NeZero n] (k : ℕ) : (⟨1, ![n]⟩ : Shape).Idx :=
  fun a => ⟨k % ![n] a, Nat.mod_lt _ (by match a with | 0 => exact Nat.pos_of_ne_zero (NeZero.ne n))⟩

/-- Row `i`, column `j` of an array of `n` rows and `m` columns, both taken round the end. -/
def ix2 (n m : ℕ) [NeZero n] [NeZero m] (i j : ℕ) : (⟨2, ![n, m]⟩ : Shape).Idx :=
  fun a => ⟨(![i, j] a) % ![n, m] a, Nat.mod_lt _ (by
    match a with
    | 0 => exact Nat.pos_of_ne_zero (NeZero.ne n)
    | 1 => exact Nat.pos_of_ne_zero (NeZero.ne m))⟩

theorem ix1_val (n : ℕ) [NeZero n] (k : ℕ) (h : k < n) : (ix1 n k 0).val = k := Nat.mod_eq_of_lt h

theorem ix2_val0 (n m : ℕ) [NeZero n] [NeZero m] (i j : ℕ) (h : i < n) : (ix2 n m i j 0).val = i := Nat.mod_eq_of_lt h
theorem ix2_val1 (n m : ℕ) [NeZero n] [NeZero m] (i j : ℕ) (h : j < m) : (ix2 n m i j 1).val = j := Nat.mod_eq_of_lt h

/-- An index of a list is `ix1` of its one coordinate. -/
theorem eq_ix1 {n : ℕ} [NeZero n] (x : (⟨1, ![n]⟩ : Shape).Idx) : x = ix1 n (x 0).val := by
  funext a
  match a with
  | 0 => exact Fin.ext (Nat.mod_eq_of_lt (x 0).isLt).symm

/-- An index of an array is `ix2` of its two coordinates. -/
theorem eq_ix2 {n m : ℕ} [NeZero n] [NeZero m] (x : (⟨2, ![n, m]⟩ : Shape).Idx) : x = ix2 n m (x 0).val (x 1).val := by
  funext a
  match a with
  | 0 => exact Fin.ext (Nat.mod_eq_of_lt (x 0).isLt).symm
  | 1 => exact Fin.ext (Nat.mod_eq_of_lt (x 1).isLt).symm

abbrev Tbl : Shape := ⟨2, ![2600000, 16]⟩
abbrev Cat : Shape := ⟨1, ![2129920]⟩
abbrev Num : Shape := ⟨1, ![1064960]⟩

section

variable {α : Type}

/-- Number `n` of the flat result. -/
def flatAt (T : Tbl.Idx → α) (C : Cat.Idx → BitVec 32) (X : Num.Idx → α) (n : ℕ) : α :=
  if n % 429 < 416 then
    T (ix2 2600000 16 ((C (ix1 2129920 (26 * (n / 429) + n % 429 / 16))).toNat + 100000 * (n % 429 / 16)) (n % 429 % 16))
  else X (ix1 1064960 (13 * (n / 429) + (n % 429 - 416)))

/-- Word `n` of the list of table rows for the 128 groups from group `b` on: the word as fetched, moved to its field. -/
def rowWord (C : Cat.Idx → BitVec 32) (b n : ℕ) : BitVec 32 :=
  C (ix1 2129920 (26 * b + n)) + BitVec.ofNat 32 (n % 26 * 100000)

/-- Every word names an entry of its field. -/
def InVocab (C : Cat.Idx → BitVec 32) : Prop := ∀ j, (C j).toNat < 100000

theorem rowWord_toNat {C : Cat.Idx → BitVec 32} (hC : InVocab C) (b n : ℕ) :
    (rowWord C b n).toNat = (C (ix1 2129920 (26 * b + n))).toNat + n % 26 * 100000 := by
  have h1 := hC (ix1 2129920 (26 * b + n))
  have h2 : n % 26 < 26 := Nat.mod_lt _ (by omega)
  unfold rowWord
  rw [BitVec.toNat_add, BitVec.toNat_ofNat, Nat.mod_eq_of_lt (a := n % 26 * 100000) (by omega), Nat.mod_eq_of_lt (by omega)]

theorem rowWord_lt {C : Cat.Idx → BitVec 32} (hC : InVocab C) (b n : ℕ) : (rowWord C b n).toNat < 2600000 := by
  rw [rowWord_toNat hC]
  have h1 := hC (ix1 2129920 (26 * b + n))
  have h2 : n % 26 < 26 := Nat.mod_lt _ (by omega)
  omega

/-- The looked-up numbers of the 128 groups from `b` on, row `n`, column `e`. -/
def looked (T : Tbl.Idx → α) (C : Cat.Idx → BitVec 32) (b n e : ℕ) : α := T (ix2 2600000 16 (rowWord C b n).toNat e)

/-- Field `f` of group `p` sits at `429 p + 16 f` of the stretch of results. -/
theorem flatAt_field (T : Tbl.Idx → α) {C : Cat.Idx → BitVec 32} (hC : InVocab C) (X : Num.Idx → α) (b p f e : ℕ) (hf : f < 26) (he : e < 16) :
    flatAt T C X (429 * b + (429 * p + 16 * f + e)) = looked T C b (26 * p + f) e := by
  have hmod : (429 * b + (429 * p + 16 * f + e)) % 429 = 16 * f + e := by omega
  have hdiv : (429 * b + (429 * p + 16 * f + e)) / 429 = b + p := by omega
  unfold flatAt looked
  rw [hmod, hdiv, if_pos (by omega), rowWord_toNat hC, show (16 * f + e) / 16 = f by omega, show (16 * f + e) % 16 = e by omega,
    show 26 * (b + p) + f = 26 * b + (26 * p + f) by omega, show (26 * p + f) % 26 = f by omega, Nat.mul_comm 100000 f]

/-- The numeric features of group `p` sit at `429 p + 416` of the stretch of results. -/
theorem flatAt_numeric (T : Tbl.Idx → α) (C : Cat.Idx → BitVec 32) (X : Num.Idx → α) (b p e : ℕ) (he : e < 13) :
    flatAt T C X (429 * b + (429 * p + 416 + e)) = X (ix1 1064960 (13 * b + (13 * p + e))) := by
  have hmod : (429 * b + (429 * p + 416 + e)) % 429 = 416 + e := by omega
  have hdiv : (429 * b + (429 * p + 416 + e)) / 429 = b + p := by omega
  unfold flatAt
  rw [hmod, hdiv, if_neg (by omega), show 13 * (b + p) + (416 + e - 416) = 13 * b + (13 * p + e) by omega]

/-- The first `n` numbers of a list are those of `A`. -/
def Filled {N : ℕ} (A : ℕ → α) (n : ℕ) (f : (⟨1, ![N]⟩ : Shape).Idx → α) : Prop := ∀ j, (j 0).val < n → f j = A (j 0).val

theorem Filled.zero {N : ℕ} (A : ℕ → α) (f : (⟨1, ![N]⟩ : Shape).Idx → α) : Filled A 0 f := fun _ h => absurd h (Nat.not_lt_zero _)

end

section Store

variable {F : FTy → Type} [FloatOps F] {e : EltTy}

/-- A scatter of lanes to consecutive places from `n` on, `m` of them set, extends a filled stretch by `m`. -/
theorem storeIdx_filled {N D : ℕ} (A : ℕ → Elt F e) {f : Vec F ⟨1, ![N]⟩ e} {idxs : Fin 1 → IVec ⟨1, ![D]⟩ 32} {v : Vec F ⟨1, ![D]⟩ e}
    {mask : IVec ⟨1, ![D]⟩ 1} (h : ∀ a x, (idxs a x).toNat < (⟨1, ![N]⟩ : Shape).size a) (n m : ℕ) (hmD : m ≤ D)
    (hidx : ∀ x, mask x = 1 → (idxs 0 x).toNat = n + (x 0).val) (hv : ∀ x, mask x = 1 → v x = A (n + (x 0).val))
    (hm : ∀ x : (⟨1, ![D]⟩ : Shape).Idx, (x 0).val < m → mask x = 1) (hf : Filled A n f) :
    Filled A (n + m) (storeIdx (s := ⟨1, ![N]⟩) (d := ![D]) f idxs v mask false h) := by
  have key : ∀ (l : List (Fin D)) (g : Vec F ⟨1, ![N]⟩ e) (j : (⟨1, ![N]⟩ : Shape).Idx),
      (g j = A (j 0).val ∨ ∃ k ∈ l, k.val < m ∧ (j 0).val = n + k.val) →
      (l.foldl (fun g k =>
        let x : (⟨1, ![D]⟩ : Shape).Idx := Shape.ofLane (d := ![D]) k
        if mask x = 1 then
          let i := idxAt (s := ⟨1, ![N]⟩) idxs h x
          let y := if false then Elt.idxAdd e (g i) (v x) else v x
          fun j => if (∀ a, (j a).val = (i a).val) then y else g j
        else g) g) j = A (j 0).val := by
    intro l
    induction l with
    | nil =>
      rintro g j (h | ⟨k, hk, -⟩)
      · exact h
      · exact absurd hk List.not_mem_nil
    | cons k l ih =>
      intro g j hj
      refine ih _ j ?_
      by_cases hin : ∃ k' ∈ l, k'.val < m ∧ (j 0).val = n + k'.val
      · exact .inr hin
      refine .inl ?_
      show (if mask (Shape.ofLane (d := ![D]) k) = 1 then _ else g : Vec F ⟨1, ![N]⟩ e) j = _
      by_cases hmk : mask (Shape.ofLane (d := ![D]) k) = 1
      · have hpos : (idxAt (s := ⟨1, ![N]⟩) idxs h (Shape.ofLane (d := ![D]) k) 0).val = n + k.val := hidx _ hmk
        rw [if_pos hmk]
        by_cases hjk : (j 0).val = n + k.val
        · refine (if_pos fun a => ?_).trans ?_
          · match a with
            | 0 => exact hjk.trans hpos.symm
          · refine (hv _ hmk).trans ?_
            rw [hjk]; rfl
        · refine (if_neg fun hall => hjk ((hall 0).trans hpos)).trans ?_
          rcases hj with hj | ⟨k', hk', h1, h2⟩
          · exact hj
          · rcases List.mem_cons.mp hk' with rfl | hk'
            · exact absurd h2 hjk
            · exact absurd ⟨k', hk', h1, h2⟩ hin
      · rw [if_neg hmk]
        rcases hj with hj | ⟨k', hk', h1, h2⟩
        · exact hj
        · rcases List.mem_cons.mp hk' with rfl | hk'
          · exact absurd (hm _ h1) hmk
          · exact absurd ⟨k', hk', h1, h2⟩ hin
  intro j hj
  refine key (List.finRange D) f j ?_
  by_cases hjn : (j 0).val < n
  · exact .inl (hf j hjn)
  · exact .inr ⟨⟨(j 0).val - n, by omega⟩, List.mem_finRange _, by show (j 0).val - n < m; omega, by show (j 0).val = n + ((j 0).val - n); omega⟩

end Store

end Cert.Proof.Values
-- ==== Proof.GatherBatch.lean ====
/-
  Several indirect gathers in flight on ONE semaphore.  A tile starts many gathers before it waits for any of them, so
  no single wait says which rows have landed: the semaphore only counts.  Here every ROW of every gather is one member
  of a counted batch.  The batch is opened once, for all rows of all gathers, from the semaphore at zero; a gather
  of `o` rows takes the next `o` members of it (`wp_gather_batch`).  The waits are then those of the counted batch:
  all but the last learn nothing, the last one returns every row.
-/
module

public import Idealize.ShloMosaic.Lib.Batch
public import Idealize.ShloMosaic.Lib.SparseCore.Stream

@[expose] public section

noncomputable section

namespace Cert.Proof.GatherBatch

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- The members of a batch from `k` on are the next `o` of them and those from `k + o` on. -/
theorem pending_take {n : ℕ} (k o : ℕ) (h : k + o ≤ n) (Φ : Fin n → sProp 𝕄) :
    bigSep (pending k) Φ
      = iprop((bigSep Finset.univ fun i : Fin o => Φ ⟨k + i.val, by have := i.isLt; omega⟩) ∗ bigSep (pending (k + o)) Φ) := by
  classical
  let e : Fin o ↪ Fin n := ⟨fun i => ⟨k + i.val, by have := i.isLt; omega⟩, fun i j hij => by
    have := congrArg Fin.val hij; exact Fin.ext (by simpa using this)⟩
  have hset : (pending k : Finset (Fin n)) = Finset.univ.map e ∪ pending (k + o) := by
    ext t
    simp only [pending, Finset.mem_filter, Finset.mem_univ, true_and, Finset.mem_union, Finset.mem_map]
    constructor
    · intro ht
      by_cases h' : k + o ≤ t.val
      · exact .inr h'
      · exact .inl ⟨⟨t.val - k, by omega⟩, Fin.ext (by show k + (t.val - k) = t.val; omega)⟩
    · rintro (⟨i, rfl⟩ | ht)
      · exact Nat.le_add_right _ _
      · omega
  have hdis : Disjoint (Finset.univ.map e) (pending (k + o)) := by
    refine Finset.disjoint_left.mpr fun t ht ht' => ?_
    obtain ⟨i, -, rfl⟩ := Finset.mem_map.mp ht
    have h1 : k + o ≤ k + i.val := (Finset.mem_filter.mp ht').2
    have := i.isLt; omega
  rw [hset, BI.bigSep_union hdis, BI.bigSep_map]
  rfl

section Issue

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- A gather started as the next `o` members of a batch.  Row `k` of it brings the destination's row `k` outright, a
    share of word `k` of the list and a share of the source; what comes back of the three, the row holding the source's
    row that the word names, must be what the batch promises of member `j + k` (`hD`). -/
theorem wp_gather_batch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {n : ℕ} {D : Fin n → sProp 𝕄} {j : ℕ}
    {q : Fin (s.size hg.axis') → PosShare TreeShare} {qo : PosShare TreeShare}
    {fs : Buf (Elt F) (src.view.loc c)} {fd : Buf (Elt F) (dst.view.loc c)} {fo : Buf (Elt F) (offs.view.loc c)}
    (ι : Ix) (N : ℕ) (hN : ∀ i, (dst.slice (s.rowRect hg.axis' i) (s.stride_rowRect hg.axis' i)).view.dmaCredit = N)
    (hin : ∀ x, (offs.view.read (Elt F) fo x).toNat < s₀.size hg.axis)
    (hj : j + s.size hg.axis' ≤ n)
    (hD : ∀ i : Fin (s.size hg.axis'),
      iprop((dst.view.loc c ↦[(dst.view.slice (s.rowRect hg.axis' i)).set]{fullShare}
              ((dst.view.slice (s.rowRect hg.axis' i)).write (Elt F) fd
                (fun y => src.view.read (Elt F) fs (hg.rowIdx (rows (offs.view.read (Elt F) fo) hn hin i) y)) Finset.univ))
          ∗ (offs.view.loc c ↦[{offs.view.emb (si.rowMajor.symm (i.cast hn.symm))}]{qo} fo)
          ∗ (src.view.loc c ↦[src.view.set]{q i} fs)) ⊢ D ⟨j + i.val, by have := i.isLt; omega⟩) :
    iprop((bigSep Finset.univ fun i : Fin (s.size hg.axis') =>
              iprop((dst.view.loc c ↦[(dst.view.slice (s.rowRect hg.axis' i)).set]{fullShare} fd)
                ∗ (offs.view.loc c ↦[{offs.view.emb (si.rowMajor.symm (i.cast hn.symm))}]{qo} fo)
                ∗ (src.view.loc c ↦[src.view.set]{q i} fs)))
        ∗ Batch EC c (.dma sem) ι N D j 0)
      ⊢ iprop((Batch EC c (.dma sem) ι N D (j + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun i w => (rowOf (s₀.size hg.axis) w).map (gatherRow c src dst hg sem hsrc he hsp hr i)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  have hagree : S.RowsAgree := by
    intro i w w' ρ ρ' h h'
    obtain ⟨_, _, rfl⟩ := Option.map_eq_some_iff.mp h
    obtain ⟨_, _, rfl⟩ := Option.map_eq_some_iff.mp h'
    rfl
  have hnames : ∀ i, S.row i (S.word fo i) = some (rd i) := fun i => by
    change (rowOf (s₀.size hg.axis) (offs.view.read (Elt F) fo (S.entry i))).map _ = _
    rw [rowOf_of_lt (hin _)]; rfl
  have htotal : ∑ i, (rd i).dst.view.dmaCredit = s.size hg.axis' * N := by
    rw [Finset.sum_congr rfl fun i _ => hN i, Finset.sum_const, Finset.card_univ, Fintype.card_fin, smul_eq_mul]
  unfold Batch
  iintro ⟨Hrows, ⟨%γ, %γ₀, %κ, #Hinv, HI, H0, Hcred⟩⟩ Hk
  ihave HI' := (Entails.of_eq (pending_take j (s.size hg.axis') hj fun t => count EC (γ t) 0)) $$ HI
  icases HI' with ⟨Hnow, HI⟩
  iapply (wp_enqueueIndirectDma 𝒱 c bd Set.univ (qo := qo) (fo := fo) (rd := rd) ι (s.size hg.axis' * N) hagree hnames htotal) $$ [Hrows Hnow]
  · have hrow : ∀ i : Fin (s.size hg.axis'),
        iprop(inv κ (batchBody EC (c, SemLoc.dma sem) N D γ γ₀)
          ∗ (((dst.view.loc c ↦[(dst.view.slice (s.rowRect hg.axis' i)).set]{fullShare} fd)
              ∗ (offs.view.loc c ↦[{offs.view.emb (si.rowMajor.symm (i.cast hn.symm))}]{qo} fo)
              ∗ (src.view.loc c ↦[src.view.set]{q i} fs))
            ∗ count EC (γ ⟨j + i.val, by have := i.isLt; omega⟩) 0))
        ⊢ iprop(S.heldEntry qo fo i ∗ (S.heldEntry qo fo i -∗ rowRes c (rd i))) := fun i => by
      iintro ⟨#Hinv, ⟨Hd, He, Hs⟩, Hγ⟩
      isplitl [He]; · iexact He
      iintro He
      unfold rowRes
      iexists q i, fs, iprop((dst.view.loc c ↦[(dst.view.slice (s.rowRect hg.axis' i)).set]{fullShare}
              ((dst.view.slice (s.rowRect hg.axis' i)).write (Elt F) fd
                (fun y => src.view.read (Elt F) fs (hg.rowIdx (rows (offs.view.read (Elt F) fo) hn hin i) y)) Finset.univ)) ∗ S.heldEntry qo fo i)
      isplitl [Hs]; · iexact Hs
      isplitl [Hd He]
      · iapply writeUpdate_frame
        isplitl [Hd]
        · iapply (pointsTo_writeUpdate c (v := dst.view.slice (s.rowRect hg.axis' i)) subset_rfl) $$ Hd
        · iexact He
      · have hcr : (rd i).dst.view.amount (.dma sem) = N := hN i
        rw [hcr]
        iapply (batch_creditUpdate EC (N := N) (D := D) (γ₀ := γ₀) ⟨j + i.val, by have := i.isLt; omega⟩ (sep_assoc.1.trans (hD i)))
        isplitr; · iexact Hinv
        iexact Hγ
    unfold Stream.res
    ihave H := bigSep_sep_in _ _ _ $$ [Hrows Hnow]; · isplitl [Hrows] <;> iassumption
    iapply (bigSep_mono_pers Finset.univ _ _ _ fun i _ => hrow i)
    isplitr; · iexact Hinv
    iexact H
  iintro Hcred'
  iapply Hk
  iexists γ, γ₀, κ
  isplitr; · iexact Hinv
  isplitl [HI]; · iexact HI
  isplitl [H0]; · iexact H0
  rw [Nat.sub_zero, Nat.sub_zero, Nat.add_mul, ← tallyAt_add]
  icombine Hcred Hcred' as H
  iexact H

end Issue

end Cert.Proof.GatherBatch

end
-- ==== Proof.KernelIdeal.Base.lean ====
/-
  The program as its proof sees it: the launch's parameters, the buffers and the memrefs of one tile, and what a tile's
  own memory holds while it works on the 128 groups from group `b` on.
-/
module

public import proofs.«01_k».proof.Defs
public import proofs.«01_k».proof.Proof.Values
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WritesUnit
public import Idealize.ShloMosaic.Lib.Tactic
public import proofs.«01_k».proof.Proof.Gen.KernelIdeal
public import proofs.«01_k».proof.Proof.Gen.KernelIdeal.Skeleton

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Values

variable {F : FTy → Type}

/-! ## The launch's parameters -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev MM (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL

/-! ## The buffers of the call and of a tile -/

abbrev tLoc (d : Dev nD) : Loc nD τ sig := (SparseCore.T d).loc main_v0
abbrev cLoc (d : Dev nD) : Loc nD τ sig := (SparseCore.T d).loc main_v1
abbrev xLoc (d : Dev nD) : Loc nD τ sig := (SparseCore.T d).loc main_v2
abbrev oLoc (d : Dev nD) : Loc nD τ sig := (SparseCore.T d).loc main_v3

abbrev tV : Memref sig Kind.scVector Space.hbm S2600000x16 EltTy.f32 := Memref.whole main_v0_scv
abbrev cV' : Memref sig Kind.scVector Space.hbm S2129920 EltTy.i32 := Memref.whole main_v1_scv
abbrev xV : Memref sig Kind.scVector Space.hbm S1064960 EltTy.f32 := Memref.whole main_v2_scv
abbrev oV : Memref sig Kind.scVector Space.hbm S35143680 EltTy.f32 := Memref.whole main_v3_scv
/-- The words as fetched; -/
abbrev rawV : Memref sig Kind.scVector Space.vmem S3328 EltTy.i32 := Memref.whole cc0_scratch0
/-- the table rows to look up; -/
abbrev idxV : Memref sig Kind.scVector Space.vmem S26x128 EltTy.i32 := Memref.whole cc0_scratch1
/-- the rows looked up; -/
abbrev rowsV : Memref sig Kind.scVector Space.vmem S3328x16 EltTy.f32 := Memref.whole cc0_scratch2
/-- the numeric features; -/
abbrev numV : Memref sig Kind.scVector Space.vmem S1680 EltTy.f32 := Memref.whole cc0_scratch3
/-- the assembled results. -/
abbrev asmV : Memref sig Kind.scVector Space.vmem S54912 EltTy.f32 := Memref.whole cc0_scratch4

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev lanes : IVec S16 32 := iota .scVector S16 32 [0] iota_S16_d0_w32_scVector

/-! ## What a tile's memory holds -/

/-- The words fetched for the groups from `b` on. -/
def rawAt (C : Cat.Idx → BitVec 32) (b : ℕ) : S3328.Idx → BitVec 32 := fun x => C (ix1 2129920 (26 * b + (x 0).val))

/-- The first `n` rows to look up, in reading order, are in place. -/
def IdxFilled (C : Cat.Idx → BitVec 32) (b n : ℕ) (f : S26x128.Idx → BitVec 32) : Prop :=
  ∀ x, 128 * (x 0).val + (x 1).val < n → f x = rowWord C b (128 * (x 0).val + (x 1).val)

/-- The rows looked up. -/
def rowsAt (T : Tbl.Idx → Elt F .f32) (C : Cat.Idx → BitVec 32) (b : ℕ) : S3328x16.Idx → Elt F .f32 := fun x => looked T C b (x 0).val (x 1).val

/-- The 128 groups' numeric features are in place (the last 16 words of the buffer are never looked at). -/
def NumFilled (X : Num.Idx → Elt F .f32) (b : ℕ) (f : S1680.Idx → Elt F .f32) : Prop :=
  ∀ x, (x 0).val < 1664 → f x = X (ix1 1064960 (13 * b + (x 0).val))

/-! ## The integer arithmetic -/

theorem trips_t1 : k0_t1_loop.trips = 20 := by decide +kernel
theorem trips_t2 : k0_t2_loop.trips = 208 := by decide +kernel
theorem trips_t3 : k0_t3_loop.trips = 128 := by decide +kernel

/-- The kernel's field offset of lane `l` of trip `t` of the index loop: a hundred thousand times the field. -/
theorem fieldOff_eq : ∀ (t : Fin k0_t2_loop.trips) (l : Fin 16),
    k0_pay7 (F := Bits) lanes 0#32 1#32 t (fun _ => (0#32 : BitVec 32)) (Shape.ofLane (d := ![16]) l)
      = BitVec.ofNat 32 ((16 * t.val + l.val) % 26 * 100000) := by
  decide +kernel

/-- What the index loop stores at lane `l` of trip `t`: the word there, moved to its field. -/
theorem pay7_apply (t : Fin k0_t2_loop.trips) (v : Vec F S16 .i32) (l : S16.Idx) :
    k0_pay7 (F := F) lanes 0#32 1#32 t v l = v l + BitVec.ofNat 32 ((16 * t.val + (l 0).val) % 26 * 100000) := by
  have hl : l = Shape.ofLane (d := ![16]) (l 0) := by
    funext a; match a with | 0 => rfl
  have e := fieldOff_eq t (l 0)
  rw [← hl] at e
  rw [← e]
  exact congrArg (v l + ·) (BitVec.zero_add _).symm

theorem lanes_apply (l : S16.Idx) : lanes l = BitVec.ofNat 32 (l 0).val := by
  show BitVec.ofNat 32 (0 * 16 + (l 0).val) = _
  rw [Nat.zero_mul, Nat.zero_add]

/-- Lane `l` of the places the kernel stores to: `429` times the group, the offset `n` within it, the lane. -/
theorem place_val (t : Fin k0_t3_loop.trips) (n : ℕ) (hn : n ≤ 416) (c : BitVec 32) (hc : c = BitVec.ofNat 32 n) (l : S16.Idx) :
    (addi (broadcast S16 (Scalar.addi (Scalar.muli (Scf.iv 0#32 1#32 t) 429#32) c)) lanes l).toNat = 429 * t.val + n + (l 0).val := by
  have ht : t.val < 128 := trips_t3 ▸ t.isLt
  have hl : (l 0).val < 16 := (l 0).isLt
  subst hc
  show ((0#32 + BitVec.ofNat 32 t.val * 1#32) * 429#32 + BitVec.ofNat 32 n + lanes l).toNat = _
  rw [lanes_apply]
  simp only [BitVec.toNat_add, BitVec.toNat_mul, BitVec.toNat_ofNat]
  omega

/-- Lane `l` of the places the kernel reads numeric features from. -/
theorem source_val (t : Fin k0_t3_loop.trips) (l : S16.Idx) :
    (k0_pay5 (Scf.iv 0#32 1#32 t) l).toNat = 13 * t.val + (l 0).val := by
  have ht : t.val < 128 := trips_t3 ▸ t.isLt
  have hl : (l 0).val < 16 := (l 0).isLt
  show ((0#32 + BitVec.ofNat 32 t.val * 1#32) * 13#32 + lanes l).toNat = _
  rw [lanes_apply]
  simp only [BitVec.toNat_add, BitVec.toNat_mul, BitVec.toNat_ofNat]
  omega

/-- The mask of the last store: the first 13 lanes. -/
theorem mask_iff (l : S16.Idx) : k0_pay1 l = 1 ↔ (l 0).val < 13 := by
  have key : ∀ k : Fin 16, k0_pay1 (Shape.ofLane (d := ![16]) k) = 1 ↔ k.val < 13 := by decide +kernel
  have hl : l = Shape.ofLane (d := ![16]) (l 0) := by
    funext a; match a with | 0 => rfl
  rw [hl]
  exact key (l 0)

/-- A set lane of the places the last store goes to; -/
theorem last_val (t : Fin k0_t3_loop.trips) (l : S16.Idx) (hl : k0_pay1 l = 1) :
    (k0_pay6 (Scalar.muli (Scf.iv 0#32 1#32 t) 429#32) l).toNat = 429 * t.val + 416 + (l 0).val := by
  have e : k0_pay6 (Scalar.muli (Scf.iv 0#32 1#32 t) 429#32) l
      = addi (broadcast S16 (Scalar.addi (Scalar.muli (Scf.iv 0#32 1#32 t) 429#32) 416#32)) lanes l := by
    show (if k0_pay1 l = 1 then _ else _) = _
    exact if_pos hl
  rw [e]
  exact place_val t 416 le_rfl _ rfl l

/-- every lane of them lies in the buffer. -/
theorem last_lt (t : Fin k0_t3_loop.trips) (l : S16.Idx) : (k0_pay6 (Scalar.muli (Scf.iv 0#32 1#32 t) 429#32) l).toNat < 54912 := by
  have ht : t.val < 128 := trips_t3 ▸ t.isLt
  by_cases hl : k0_pay1 l = 1
  · have h13 := (mask_iff l).mp hl
    rw [last_val t l hl]; omega
  · have e : k0_pay6 (Scalar.muli (Scf.iv 0#32 1#32 t) 429#32) l = 0#32 := by
      show (if k0_pay1 l = 1 then _ else _) = _
      exact if_neg hl
    rw [e]; decide

end Cert.Proof.OfKernelIdeal

end
-- ==== Proof.KernelIdeal.Gather.lean ====
/-
  The gathers: 26 of them, 128 table rows each, all started on one semaphore before the first wait.  The rows of all of
  them are the 3328 members of one counted batch; the first 25 waits only count, the last returns everything.
-/
module

public import proofs.«01_k».proof.Proof.KernelIdeal.Base
public import proofs.«01_k».proof.Proof.GatherBatch

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values Cert.Proof.GatherBatch
open Idealize.ShloMosaic.Transfers (Batch MayWaits pending)

variable {F : FTy → Type} [FloatOps F]

local notation "𝕄" => MT nD τ sig (HIx 1) (Elt F) ℕ UU ℕ

variable (d : Dev nD) (L : grid0.Coords)

/-- The units one row of a gather counts. -/
abbrev rowUnits : ℕ := cc0_scratch2.dmaCredit (S128x16.rowShape gathers_S2600000x16_S128x16.axis') .f32

theorem rowUnits_pos : 0 < rowUnits := by decide
theorem gatherUnits : cc0_scratch2.dmaCredit S128x16 .f32 = 128 * rowUnits := by decide

/-- Row `t` of the buffer for the rows looked up; -/
def rowSet (t : ℕ) : Finset (Idx ((rowsV).view.loc (thr d L))) := Finset.univ.filter fun x : S3328x16.Idx => (x 0).val = t
/-- word `t` of the list. -/
def wordSet (t : ℕ) : Finset (Idx ((idxV).view.loc (thr d L))) := {ix2 26 128 (t / 128) (t % 128)}

/-- What row `t` of the gathers is given: its row of the buffer, its word of the list, a share of the table. -/
def Before (q : PosShare TreeShare) (T : Tbl.Idx → Elt F .f32) (fo : S26x128.Idx → BitVec 32) (fd : S3328x16.Idx → Elt F .f32) (t : Fin 3328) : sProp 𝕄 :=
  iprop(((rowsV).view.loc (thr d L) ↦[rowSet d L t.val]{fullShare} fd) ∗ ((idxV).view.loc (thr d L) ↦[wordSet d L t.val]{fullShare} fo)
    ∗ ((tV).view.loc (thr d L) ↦{pieceOf q 3328 (by decide) t} T))

instance Before_storable (q : PosShare TreeShare) (T : Tbl.Idx → Elt F .f32) (fo : S26x128.Idx → BitVec 32) (fd : S3328x16.Idx → Elt F .f32) (t : Fin 3328) :
    Storable (upEmb : UEmb _ 𝕄) (Before d L q T fo fd t) := by unfold Before; infer_instance

/-- All rows of a buffer, all words of a list and a share of the table are the gathers' 3328 parts. -/
theorem parts_eq (q : PosShare TreeShare) (T : Tbl.Idx → Elt F .f32) (fo : S26x128.Idx → BitVec 32) (fd : S3328x16.Idx → Elt F .f32) :
    bigSep Finset.univ (Before d L q T fo fd)
      = (iprop(((rowsV).view.loc (thr d L) ↦{fullShare} fd) ∗ ((idxV).view.loc (thr d L) ↦{fullShare} fo) ∗ ((tV).view.loc (thr d L) ↦{q} T)) : sProp 𝕄) := by
  have hrows : (Finset.univ : Finset (Idx ((rowsV).view.loc (thr d L)))) = Finset.univ.biUnion fun t : Fin 3328 => rowSet d L t.val := by
    ext x
    simp only [Finset.mem_univ, Finset.mem_biUnion, true_and, true_iff]
    exact ⟨x 0, Finset.mem_filter.mpr ⟨Finset.mem_univ _, rfl⟩⟩
  have hwords : (Finset.univ : Finset (Idx ((idxV).view.loc (thr d L)))) = Finset.univ.biUnion fun t : Fin 3328 => wordSet d L t.val := by
    ext x
    simp only [Finset.mem_univ, Finset.mem_biUnion, true_and, true_iff]
    have h0 : (x 0).val < 26 := (x 0).isLt
    have h1 : (x 1).val < 128 := (x 1).isLt
    refine ⟨⟨128 * (x 0).val + (x 1).val, by omega⟩, Finset.mem_singleton.mpr ?_⟩
    show x = ix2 26 128 ((128 * (x 0).val + (x 1).val) / 128) ((128 * (x 0).val + (x 1).val) % 128)
    rw [show (128 * (x 0).val + (x 1).val) / 128 = (x 0).val by omega, show (128 * (x 0).val + (x 1).val) % 128 = (x 1).val by omega]
    exact eq_ix2 x
  have erows : ((rowsV).view.loc (thr d L) ↦{fullShare} fd : sProp 𝕄)
      = bigSep Finset.univ fun t : Fin 3328 => (rowsV).view.loc (thr d L) ↦[rowSet d L t.val]{fullShare} fd := by
    refine (congrArg (fun S => ((rowsV).view.loc (thr d L) ↦[S]{fullShare} fd : sProp 𝕄)) hrows).trans ?_
    refine pointsTo_biUnion (ℓ := (rowsV).view.loc (thr d L)) Finset.univ (fun t : Fin 3328 => rowSet d L t.val) fun t _ t' _ h => Finset.disjoint_left.mpr fun x hx hx' => h (Fin.ext ?_)
    exact (Finset.mem_filter.mp hx).2.symm.trans (Finset.mem_filter.mp hx').2
  have ewords : ((idxV).view.loc (thr d L) ↦{fullShare} fo : sProp 𝕄)
      = bigSep Finset.univ fun t : Fin 3328 => (idxV).view.loc (thr d L) ↦[wordSet d L t.val]{fullShare} fo := by
    refine (congrArg (fun S => ((idxV).view.loc (thr d L) ↦[S]{fullShare} fo : sProp 𝕄)) hwords).trans ?_
    refine pointsTo_biUnion (ℓ := (idxV).view.loc (thr d L)) Finset.univ (fun t : Fin 3328 => wordSet d L t.val) fun t _ t' _ h => Finset.disjoint_singleton.mpr fun he => h (Fin.ext ?_)
    have e0 := congrArg (fun x : S26x128.Idx => (x 0).val) he
    have e1 := congrArg (fun x : S26x128.Idx => (x 1).val) he
    have ht := t.isLt
    have ht' := t'.isLt
    simp only at e0 e1
    rw [ix2_val0 _ _ _ _ (by omega), ix2_val0 _ _ _ _ (by omega)] at e0
    rw [ix2_val1 _ _ _ _ (by omega), ix2_val1 _ _ _ _ (by omega)] at e1
    omega
  rw [erows, ewords, pointsTo_piecesOf (ℓ := (tV).view.loc (thr d L)) Finset.univ T (o := 3328) (by decide) q, ← bigSep_sep', ← bigSep_sep']
  rfl

variable {d L}
variable {q : PosShare TreeShare} {T : Tbl.Idx → Elt F .f32} {C : Cat.Idx → BitVec 32} {b : ℕ}
  {fo : S26x128.Idx → BitVec 32} {fd : S3328x16.Idx → Elt F .f32} {X : sProp (MT nD τ sig (HIx 1) (Elt F) ℕ UU ℕ)}

variable (d L q T C b fo fd X) in
/-- The first `j` gathers are started. -/
def Started (j : ℕ) : sProp 𝕄 :=
  iprop(bigSep (pending (128 * j)) (Before d L q T fo fd)
    ∗ Batch countersEmb (thr d L) (.dma cc0_scratch5.sem) (default : HIx 1) rowUnits (Before d L q T fo (rowsAt T C b)) (128 * j) 0 ∗ X)

/-- The table's view is all of it. -/
theorem table_set : ((tV).slice (Rect.unit (s := S2600000x16) ![0, 0] S2600000x16.size inb_S2600000x16_S2600000x16_0_0) (fun _ => rfl)).view.set = Finset.univ := by
  refine Finset.eq_univ_iff_forall.mpr fun x => Finset.mem_map.mpr ⟨x, Finset.mem_univ _, ?_⟩
  funext a
  apply Fin.ext
  match a with
  | 0 => show 0 + 1 * (x 0).val = (x 0).val; omega
  | 1 => show 0 + 1 * (x 1).val = (x 1).val; omega

/-- Where row `i` of the block of the buffer from row `128 j` on lies. -/
theorem block_emb {j : ℕ} {offD : Fin 2 → ℕ} {inbD : ∀ a, offD a + S128x16.size a ≤ S3328x16.size a} (hD0 : offD 0 = 128 * j) (hD1 : offD 1 = 0)
    (i : Fin 128) (y : (S128x16.rowShape gathers_S2600000x16_S128x16.axis').Idx) :
    (((((rowsV).slice (Rect.unit (s := S3328x16) offD S128x16.size inbD) (fun _ => rfl)).view.slice
        (S128x16.rowRect gathers_S2600000x16_S128x16.axis' i)).emb y : S3328x16.Idx) 0).val = 128 * j + i.val
      ∧ (((((rowsV).slice (Rect.unit (s := S3328x16) offD S128x16.size inbD) (fun _ => rfl)).view.slice
        (S128x16.rowRect gathers_S2600000x16_S128x16.axis' i)).emb y : S3328x16.Idx) 1).val = (y (1 : Fin 2)).val := by
  constructor
  · show offD 0 + 1 * ((S128x16.rowRect gathers_S2600000x16_S128x16.axis' i).emb y 0).val = _
    rw [hD0, show (S128x16.rowRect gathers_S2600000x16_S128x16.axis' i).emb y 0 = i from Shape.rowRect_emb_axis _ _ _]
    omega
  · show offD 1 + 1 * ((S128x16.rowRect gathers_S2600000x16_S128x16.axis' i).emb y 1).val = _
    rw [hD1, Shape.rowRect_emb_of_ne (s := S128x16) gathers_S2600000x16_S128x16.axis' i y (b := 1) (by decide)]
    show 0 + 1 * (y (1 : Fin 2)).val = (y (1 : Fin 2)).val
    omega

theorem block_row {j : ℕ} {offD : Fin 2 → ℕ} {inbD : ∀ a, offD a + S128x16.size a ≤ S3328x16.size a} (hD0 : offD 0 = 128 * j) (hD1 : offD 1 = 0) (i : Fin 128) :
    (((rowsV).slice (Rect.unit (s := S3328x16) offD S128x16.size inbD) (fun _ => rfl)).view.slice
        (S128x16.rowRect gathers_S2600000x16_S128x16.axis' i)).set = rowSet d L (128 * j + i.val) := by
  ext x
  constructor
  · intro hx
    obtain ⟨y, -, rfl⟩ := Finset.mem_map.mp hx
    exact Finset.mem_filter.mpr ⟨Finset.mem_univ _, (block_emb hD0 hD1 i y).1⟩
  · intro hx
    have h0 := (Finset.mem_filter.mp hx).2
    let z : S128x16.Idx := ix2 128 16 0 (x (1 : Fin 2)).val
    let y : (S128x16.rowShape gathers_S2600000x16_S128x16.axis').Idx := S128x16.rowProj gathers_S2600000x16_S128x16.axis' z
    have hy : (y (1 : Fin 2)).val = (x (1 : Fin 2)).val := by
      have e : (y (1 : Fin 2)).val = (z 1).val := by
        show (S128x16.rowProj gathers_S2600000x16_S128x16.axis' z (1 : Fin 2)).val = _
        unfold Shape.rowProj
        rw [dif_neg (by decide)]
      rw [e]
      exact ix2_val1 128 16 _ _ (x (1 : Fin 2)).isLt
    refine Finset.mem_map.mpr ⟨y, Finset.mem_univ _, ?_⟩
    have he := block_emb (inbD := inbD) hD0 hD1 i y
    funext a
    apply Fin.ext
    match a with
    | 0 => exact he.1.trans h0.symm
    | 1 => exact he.2.trans hy

/-- Where word `x` of row `j` of the list lies. -/
theorem list_emb {j : ℕ} (hj : j < 26) {offI : Fin 2 → ℕ} {inbI : ∀ a, offI a + S1x128.size a ≤ S26x128.size a} (hI0 : offI 0 = j) (hI1 : offI 1 = 0) (x : S128.Idx) :
    ((((idxV).slice (Rect.unit (s := S26x128) offI S1x128.size inbI) (fun _ => rfl)).squeeze S128 squeezes_S1x128_S128).view.emb x : S26x128.Idx)
      = ix2 26 128 j (x 0).val := by
  have hx : (x 0).val < 128 := (x 0).isLt
  have hr : Shape.reshapeEquiv squeezes_S1x128_S128.numel_eq x = ix2 1 128 0 (x 0).val := Shape.reshapeEquiv_eq_of_rowMajor _ (by
    rw [Shape.rowMajor_val_one, Shape.rowMajor_val_two, ix2_val0 _ _ _ _ (by omega), ix2_val1 _ _ _ _ hx]
    show 0 * 128 + (x 0).val = (x 0).val; omega)
  have h0 : (Shape.reshapeEquiv squeezes_S1x128_S128.numel_eq x 0).val = 0 := by rw [hr]; exact ix2_val0 _ _ _ _ (by omega)
  have h1 : (Shape.reshapeEquiv squeezes_S1x128_S128.numel_eq x 1).val = (x 0).val := by rw [hr]; exact ix2_val1 _ _ _ _ hx
  funext a
  apply Fin.ext
  match a with
  | 0 =>
    refine Eq.trans ?_ (ix2_val0 26 128 _ _ hj).symm
    show offI 0 + 1 * (Shape.reshapeEquiv squeezes_S1x128_S128.numel_eq x 0).val = j
    omega
  | 1 =>
    refine Eq.trans ?_ (ix2_val1 26 128 _ _ hx).symm
    show offI 1 + 1 * (Shape.reshapeEquiv squeezes_S1x128_S128.numel_eq x 1).val = (x 0).val
    omega

theorem symm_lane (i : Fin S128.numel) : (S128.rowMajor.symm i 0).val = i.val :=
  (Shape.rowMajor_val_one (S128.rowMajor.symm i)).symm.trans (congrArg Fin.val (Equiv.apply_symm_apply S128.rowMajor i))

/-- Three parts held over equal sets, the first with equal contents. -/
theorem three_congr {q : PosShare TreeShare} {T : Tbl.Idx → Elt F .f32} {fo : S26x128.Idx → BitVec 32} {f g : S3328x16.Idx → Elt F .f32}
    {A A' : Finset (Idx ((rowsV).view.loc (thr d L)))} {B B' : Finset (Idx ((idxV).view.loc (thr d L)))} {E E' : Finset (Idx ((tV).view.loc (thr d L)))}
    (hA : A = A') (hB : B = B') (hE : E = E') (h : ∀ x ∈ A, f x = g x) :
    (iprop(((rowsV).view.loc (thr d L) ↦[A]{fullShare} f) ∗ ((idxV).view.loc (thr d L) ↦[B]{fullShare} fo) ∗ ((tV).view.loc (thr d L) ↦[E]{q} T)) : sProp 𝕄)
      = iprop(((rowsV).view.loc (thr d L) ↦[A']{fullShare} g) ∗ ((idxV).view.loc (thr d L) ↦[B']{fullShare} fo) ∗ ((tV).view.loc (thr d L) ↦[E']{q} T)) := by
  subst hA hB hE
  rw [pointsTo_congr h]

/-- The start of gather `j`. -/
theorem wp_start {α : Type} {Q : α → sProp 𝕄} (hC : InVocab C) (hfo : IdxFilled C b 3328 fo) {j : ℕ} (hj : j < 26)
    {offD : Fin 2 → ℕ} {inbD : ∀ a, offD a + S128x16.size a ≤ S3328x16.size a} {offI : Fin 2 → ℕ} {inbI : ∀ a, offI a + S1x128.size a ≤ S26x128.size a}
    (hD0 : offD 0 = 128 * j) (hD1 : offD 1 = 0) (hI0 : offI 0 = j) (hI1 : offI 1 = 0)
    {hsrc : ((tV).slice (Rect.unit (s := S2600000x16) ![0, 0] S2600000x16.size inb_S2600000x16_S2600000x16_0_0) (fun _ => rfl)).view.WordExact}
    {k : PUnit → Prog (TpuEff nD τ sig (Elt F) Λ₀ (thr d L).2) α}
    (hk : Started d L q T C b fo fd X (j + 1) ⊢ wp frame (wpE (defs₀ (F := F)) 𝒱₀ (thr d L) none) Set.univ (k ⟨⟩) Q) :
    Started d L q T C b fo fd X j
      ⊢ wp frame (wpE (defs₀ (F := F)) 𝒱₀ (thr d L) none) Set.univ
          (SparseCore.enqueueIndirectGather rfl
            ((tV).slice (Rect.unit (s := S2600000x16) ![0, 0] S2600000x16.size inb_S2600000x16_S2600000x16_0_0) (fun _ => rfl))
            ((rowsV).slice (Rect.unit (s := S3328x16) offD S128x16.size inbD) (fun _ => rfl)) gathers_S2600000x16_S128x16
            (((idxV).slice (Rect.unit (s := S26x128) offI S1x128.size inbI) (fun _ => rfl)).squeeze S128 squeezes_S1x128_S128) rfl
            cc0_scratch5.sem hsrc rfl (Or.inl rfl) >>= k) Q := by
  unfold Started at hk ⊢
  have hN : ∀ i, (((rowsV).slice (Rect.unit (s := S3328x16) offD S128x16.size inbD) (fun _ => rfl)).slice
      (S128x16.rowRect gathers_S2600000x16_S128x16.axis' i) (S128x16.stride_rowRect gathers_S2600000x16_S128x16.axis' i)).view.dmaCredit = rowUnits := fun _ => rfl
  have hword : ∀ x : S128.Idx,
      (((idxV).slice (Rect.unit (s := S26x128) offI S1x128.size inbI) (fun _ => rfl)).squeeze S128 squeezes_S1x128_S128).view.read (Elt F) fo x
        = rowWord C b (128 * j + (x 0).val) := fun x => by
    have hx : (x 0).val < 128 := (x 0).isLt
    refine (show _ = fo ((((idxV).slice (Rect.unit (s := S26x128) offI S1x128.size inbI) (fun _ => rfl)).squeeze S128 squeezes_S1x128_S128).view.emb x) from rfl).trans ?_
    rw [list_emb hj hI0 hI1 x]
    refine (hfo _ ?_).trans ?_
    · rw [ix2_val0 _ _ _ _ hj, ix2_val1 _ _ _ _ hx]; omega
    · rw [ix2_val0 _ _ _ _ hj, ix2_val1 _ _ _ _ hx]
  have hin : ∀ x : S128.Idx,
      ((((idxV).slice (Rect.unit (s := S26x128) offI S1x128.size inbI) (fun _ => rfl)).squeeze S128 squeezes_S1x128_S128).view.read (Elt F) fo x).toNat
        < S2600000x16.size gathers_S2600000x16_S128x16.axis := fun x => by
    rw [hword x]; exact rowWord_lt hC b _
  have hlen : 128 * j + S128x16.size gathers_S2600000x16_S128x16.axis' ≤ 3328 := by
    show 128 * j + 128 ≤ 3328; omega
  have hent : ∀ i : Fin 128,
      ({(((idxV).slice (Rect.unit (s := S26x128) offI S1x128.size inbI) (fun _ => rfl)).squeeze S128 squeezes_S1x128_S128).view.emb
          (S128.rowMajor.symm (i.cast (rfl : S128.numel = 128).symm))} : Finset (Idx ((idxV).view.loc (thr d L)))) = wordSet d L (128 * j + i.val) := fun i => by
    have hi := i.isLt
    rw [list_emb hj hI0 hI1, symm_lane]
    unfold wordSet
    rw [show (128 * j + i.val) / 128 = j by omega, show (128 * j + i.val) % 128 = i.val by omega]
    rfl
  have hlt : ∀ i : Fin 128, 128 * j + i.val < 3328 := fun i => by
    have := i.isLt; omega
  have hidx : 128 * (j + 1) = 128 * j + 128 := by omega
  have hpre : bigSep (Finset.univ : Finset (Fin 128)) (fun i => Before d L q T fo fd ⟨128 * j + i.val, hlt i⟩)
      = bigSep (Finset.univ : Finset (Fin 128)) fun i => (iprop(
        ((rowsV).view.loc (thr d L) ↦[(((rowsV).slice (Rect.unit (s := S3328x16) offD S128x16.size inbD) (fun _ => rfl)).view.slice
            (S128x16.rowRect gathers_S2600000x16_S128x16.axis' i)).set]{fullShare} fd)
        ∗ ((idxV).view.loc (thr d L) ↦[{(((idxV).slice (Rect.unit (s := S26x128) offI S1x128.size inbI) (fun _ => rfl)).squeeze S128 squeezes_S1x128_S128).view.emb
            (S128.rowMajor.symm (i.cast (rfl : S128.numel = 128).symm))}]{fullShare} fo)
        ∗ ((tV).view.loc (thr d L) ↦[((tV).slice (Rect.unit (s := S2600000x16) ![0, 0] S2600000x16.size inb_S2600000x16_S2600000x16_0_0) (fun _ => rfl)).view.set]{
            pieceOf q 3328 (by decide) ⟨128 * j + i.val, hlt i⟩} T)) : sProp 𝕄) :=
    bigSep_congr fun i _ => (three_congr (block_row (d := d) (L := L) (inbD := inbD) hD0 hD1 i) (hent i) table_set fun _ _ => rfl).symm
  iintro ⟨Hrows, HB, HX⟩
  ihave Hrows' := (Entails.of_eq (pending_take (128 * j) 128 hlen (Before d L q T fo fd))) $$ Hrows
  icases Hrows' with ⟨Hnow, Hrest⟩
  iapply (wp_gather_batch countersEmb 𝒱₀ (thr d L) none (src := (tV).slice (Rect.unit (s := S2600000x16) ![0, 0] S2600000x16.size inb_S2600000x16_S2600000x16_0_0) (fun _ => rfl))
    (dst := (rowsV).slice (Rect.unit (s := S3328x16) offD S128x16.size inbD) (fun _ => rfl)) (hg := gathers_S2600000x16_S128x16)
    (offs := ((idxV).slice (Rect.unit (s := S26x128) offI S1x128.size inbI) (fun _ => rfl)).squeeze S128 squeezes_S1x128_S128) (hn := rfl) (sem := cc0_scratch5.sem)
    (n := 3328) (D := Before d L q T fo (rowsAt T C b)) (j := 128 * j)
    (q := fun i : Fin 128 => pieceOf q 3328 (by decide) ⟨128 * j + i.val, hlt i⟩) (qo := fullShare) (fs := T) (fd := fd) (fo := fo)
    (default : HIx 1) rowUnits hN hin hlen (fun i => ?_)) $$ [Hnow HB]
  · refine Entails.of_eq (three_congr (block_row (d := d) (L := L) (inbD := inbD) hD0 hD1 i) (hent i) table_set fun x hx => ?_)
    obtain ⟨y, -, rfl⟩ := Finset.mem_map.mp hx
    have hi : i.val < 128 := i.isLt
    have he := block_emb (inbD := inbD) hD0 hD1 i y
    refine (View.write_emb_of_mem (v := ((rowsV).slice (Rect.unit (s := S3328x16) offD S128x16.size inbD) (fun _ => rfl)).view.slice
        (S128x16.rowRect gathers_S2600000x16_S128x16.axis' i)) (Val := Elt F) fd _ (Finset.mem_univ y)).trans ?_
    refine (show _ = T (((tV).slice (Rect.unit (s := S2600000x16) ![0, 0] S2600000x16.size inb_S2600000x16_S2600000x16_0_0) (fun _ => rfl)).view.emb
      (gathers_S2600000x16_S128x16.rowIdx (SparseCore.rows (o := S128x16.size gathers_S2600000x16_S128x16.axis') _ rfl hin i) y)) from rfl).trans ?_
    have hr0 : (SparseCore.rows (o := S128x16.size gathers_S2600000x16_S128x16.axis') _ rfl hin i).val = (rowWord C b (128 * j + i.val)).toNat := by
      refine (congrArg BitVec.toNat (hword _)).trans ?_
      rw [symm_lane]; rfl
    unfold rowsAt looked
    rw [he.1, he.2]
    refine congrArg T ?_
    funext a
    apply Fin.ext
    match a with
    | 0 =>
      refine Eq.trans ?_ (ix2_val0 2600000 16 _ _ (rowWord_lt hC b _)).symm
      show 0 + 1 * (gathers_S2600000x16_S128x16.rowIdx _ y gathers_S2600000x16_S128x16.axis).val = _
      rw [zero_add, one_mul]
      exact (congrArg Fin.val (Shape.Gathers.rowIdx_axis gathers_S2600000x16_S128x16 _ y)).trans hr0
    | 1 =>
      refine Eq.trans ?_ (ix2_val1 2600000 16 _ _ (y (1 : Fin 2)).isLt).symm
      show 0 + 1 * (gathers_S2600000x16_S128x16.rowIdx _ y 1).val = (y (1 : Fin 2)).val
      rw [zero_add, one_mul]
      exact Shape.Gathers.rowIdx_of_ne gathers_S2600000x16_S128x16 _ y (1 : Fin 2) (by decide)
  · isplitl [Hnow]
    · iapply (Entails.of_eq hpre) $$ Hnow
    · iexact HB
  iintro HB
  iapply hk
  rw [hidx]
  isplitl [Hrest]; · iexact Hrest
  isplitl [HB]; · iexact HB
  iexact HX

/-! ## The waits -/

variable (d L)

/-- What the tile owes, whatever waits of its own it has recorded since. -/
def Owed (O : CellTallies nD τ sig (HIx 1)) (W : Waits sig (HIx 1)) : sProp 𝕄 :=
  iprop(∃ W', ⌜∀ p ∈ W', p ∈ W ∨ p.2 = none⌝ ∗ owes (thr d L) O W')

/-- One more wait of its own changes nothing: -/
theorem insert_ok {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with hp | hp
  · exact .inr (hp ▸ rfl)
  · exact h p hp

/-- what it owes is as before. -/
theorem Owed_insert {O : CellTallies nD τ sig (HIx 1)} {W W' : Waits sig (HIx 1)} (h : ∀ p ∈ W', p ∈ W ∨ p.2 = none) (sm : SemLoc sig) :
    owes (thr d L) O (insert (sm, (default : HIx 1)) W') ⊢ (Owed d L O W : sProp 𝕄) := by
  unfold Owed
  iintro HO
  iexists _
  isplitr
  swap; · iexact HO
  ipureintro
  exact insert_ok h sm

/-- All gathers under way, `u` of them waited for. -/
def Waiting (q : PosShare TreeShare) (T : Tbl.Idx → Elt F .f32) (C : Cat.Idx → BitVec 32) (b : ℕ) (fo : S26x128.Idx → BitVec 32)
    (O : CellTallies nD τ sig (HIx 1)) (W : Waits sig (HIx 1)) (Y : sProp 𝕄) (u : ℕ) : sProp 𝕄 :=
  iprop(Batch countersEmb (thr d L) (.dma cc0_scratch5.sem) (default : HIx 1) rowUnits (Before d L q T fo (rowsAt T C b)) 3328 (u * (128 * rowUnits))
    ∗ MayWaits (thr d L) (default : HIx 1) O ∗ Owed d L O W ∗ Y)

variable {O : CellTallies nD τ sig (HIx 1)} {W : Waits sig (HIx 1)}

/-- Before the first start: the buffers and the semaphore at zero. -/
theorem start_of (E : Set ℕ) :
    iprop(((rowsV).view.loc (thr d L) ↦{fullShare} fd) ∗ ((idxV).view.loc (thr d L) ↦{fullShare} fo) ∗ ((tV).view.loc (thr d L) ↦{q} T)
        ∗ semVal (thr d L, SemLoc.dma cc0_scratch5.sem) 0 ∗ X)
      ⊢ (|={E}=> Started d L q T C b fo fd X 0 : sProp 𝕄) := by
  unfold Started
  iintro ⟨Hr, Hi, Ht, Hs, HX⟩
  imod (Transfers.batch_alloc' countersEmb (thr d L) (default : HIx 1) rowUnits (Before d L q T fo (rowsAt T C b)) (E := E)) $$ Hs with HB
  imodintro
  isplitl [Hr Hi Ht]
  · rw [Nat.mul_zero, Transfers.pending_zero, parts_eq]
    isplitl [Hr]; · iexact Hr
    isplitl [Hi]; · iexact Hi
    iexact Ht
  isplitl [HB]; · iexact HB
  iexact HX

/-- After the last start, before the first wait. -/
theorem waiting_of {Y : sProp 𝕄} : Started d L q T C b fo fd iprop(MayWaits (thr d L) (default : HIx 1) O ∗ Owed d L O W ∗ Y) 26 ⊢ Waiting d L q T C b fo O W Y 0 := by
  unfold Started Waiting
  rw [Nat.zero_mul, show 128 * 26 = 3328 from rfl]
  iintro ⟨-, HB, HX⟩
  isplitl [HB]; · iexact HB
  iexact HX

/-- A wait that is not the last. -/
theorem wp_counted {α : Type} {Q : α → sProp 𝕄} {Y : sProp 𝕄} {u : ℕ} (hu : u < 25)
    {offD : Fin 2 → ℕ} {inbD : ∀ a, offD a + S128x16.size a ≤ S3328x16.size a}
    {hsrc : ((tV).slice (Rect.unit (s := S2600000x16) ![0, 0] S2600000x16.size inb_S2600000x16_S2600000x16_0_0) (fun _ => rfl)).view.WordExact}
    {hdst : ((rowsV).slice (Rect.unit (s := S3328x16) offD S128x16.size inbD) (fun _ => rfl)).view.WordExact}
    {k : PUnit → Prog (TpuEff nD τ sig (Elt F) Λ₀ (thr d L).2) α}
    (hk : Waiting d L q T C b fo O W Y (u + 1) ⊢ wp frame (wpE (defs₀ (F := F)) 𝒱₀ (thr d L) none) Set.univ (k ⟨⟩) Q) :
    Waiting d L q T C b fo O W Y u
      ⊢ wp frame (wpE (defs₀ (F := F)) 𝒱₀ (thr d L) none) Set.univ
          (SparseCore.waitIndirectGather cc0_scratch5.sem
            ((tV).slice (Rect.unit (s := S2600000x16) ![0, 0] S2600000x16.size inb_S2600000x16_S2600000x16_0_0) (fun _ => rfl))
            ((rowsV).slice (Rect.unit (s := S3328x16) offD S128x16.size inbD) (fun _ => rfl)) hsrc hdst >>= k) Q := by
  change _ ⊢ wp frame (wpE (defs₀ (F := F)) 𝒱₀ (thr d L) none) Set.univ (.op (.waitDma2 cc0_scratch5.sem _ _ hsrc hdst) k) Q
  have hpos := rowUnits_pos
  have hle : u * (128 * rowUnits) + 128 * rowUnits ≤ rowUnits * 3328 := by
    have h : (u + 1) * (128 * rowUnits) ≤ 26 * (128 * rowUnits) := Nat.mul_le_mul_right _ (by omega)
    rw [Nat.add_mul] at h; omega
  have hnext : (u + 1) * (128 * rowUnits) = u * (128 * rowUnits) + 128 * rowUnits := by rw [Nat.add_mul, Nat.one_mul]
  unfold Waiting at hk ⊢
  rw [hnext] at hk
  iintro ⟨HB, #Hmw, HO, HY⟩
  unfold Owed at hk ⊢
  icases HO with ⟨%W', %hW', HO⟩
  iapply (Transfers.wp_waitBatchMulO countersEmb 𝒱₀ (thr d L) none (default : HIx 1) (N := rowUnits) 128 gatherUnits
    (n := 3328) (D := Before d L q T fo (rowsAt T C b)) (j := 3328) (u := u * (128 * rowUnits)) hle) $$ [HB HO]
  · isplitl [HB]; · iexact HB
    isplitl [HO]; · iexact HO
    iapply (MayWaits.elim (SemLoc.dma cc0_scratch5.sem)) $$ Hmw
  iintro ⟨HB, HO⟩
  iapply hk
  isplitl [HB]; · iexact HB
  isplitr; · iexact Hmw
  isplitl [HO]
  · iapply (show owes (thr d L) O (insert (SemLoc.dma cc0_scratch5.sem, (default : HIx 1)) W') ⊢ (iprop(∃ W', ⌜∀ p ∈ W', p ∈ W ∨ p.2 = none⌝ ∗ owes (thr d L) O W') : sProp 𝕄)
      from Owed_insert d L hW' _)
    iexact HO
  iexact HY

/-- The last wait: every row looked up. -/
theorem wp_all {α : Type} {Q : α → sProp 𝕄} {Y : sProp 𝕄}
    {offD : Fin 2 → ℕ} {inbD : ∀ a, offD a + S128x16.size a ≤ S3328x16.size a}
    {hsrc : ((tV).slice (Rect.unit (s := S2600000x16) ![0, 0] S2600000x16.size inb_S2600000x16_S2600000x16_0_0) (fun _ => rfl)).view.WordExact}
    {hdst : ((rowsV).slice (Rect.unit (s := S3328x16) offD S128x16.size inbD) (fun _ => rfl)).view.WordExact}
    {k : PUnit → Prog (TpuEff nD τ sig (Elt F) Λ₀ (thr d L).2) α}
    (hk : iprop((((rowsV).view.loc (thr d L) ↦{fullShare} rowsAt T C b) ∗ ((idxV).view.loc (thr d L) ↦{fullShare} fo) ∗ ((tV).view.loc (thr d L) ↦{q} T))
        ∗ semVal (thr d L, SemLoc.dma cc0_scratch5.sem) 0 ∗ MayWaits (thr d L) (default : HIx 1) O ∗ Owed d L O W ∗ Y)
      ⊢ wp frame (wpE (defs₀ (F := F)) 𝒱₀ (thr d L) none) Set.univ (k ⟨⟩) Q) :
    Waiting d L q T C b fo O W Y 25
      ⊢ wp frame (wpE (defs₀ (F := F)) 𝒱₀ (thr d L) none) Set.univ
          (SparseCore.waitIndirectGather cc0_scratch5.sem
            ((tV).slice (Rect.unit (s := S2600000x16) ![0, 0] S2600000x16.size inb_S2600000x16_S2600000x16_0_0) (fun _ => rfl))
            ((rowsV).slice (Rect.unit (s := S3328x16) offD S128x16.size inbD) (fun _ => rfl)) hsrc hdst >>= k) Q := by
  change _ ⊢ wp frame (wpE (defs₀ (F := F)) 𝒱₀ (thr d L) none) Set.univ (.op (.waitDma2 cc0_scratch5.sem _ _ hsrc hdst) k) Q
  unfold Waiting
  iintro ⟨HB, #Hmw, HO, HY⟩
  unfold Owed at hk ⊢
  icases HO with ⟨%W', %hW', HO⟩
  iapply (Transfers.wp_waitBatchAllO countersEmb 𝒱₀ (thr d L) none (default : HIx 1) (N := rowUnits) gatherUnits rowUnits_pos
    (n := 3328) (D := Before d L q T fo (rowsAt T C b)) (u := 25 * (128 * rowUnits)) (by omega)) $$ [HB HO]
  · isplitl [HB]; · iexact HB
    isplitl [HO]; · iexact HO
    iapply (MayWaits.elim (SemLoc.dma cc0_scratch5.sem)) $$ Hmw
  iintro ⟨HD, HS, HO⟩
  iapply hk
  isplitl [HD]; · rw [← parts_eq]; iexact HD
  isplitl [HS]; · iexact HS
  isplitr; · iexact Hmw
  isplitl [HO]
  · iapply (show owes (thr d L) O (insert (SemLoc.dma cc0_scratch5.sem, (default : HIx 1)) W') ⊢ (iprop(∃ W', ⌜∀ p ∈ W', p ∈ W ∨ p.2 = none⌝ ∗ owes (thr d L) O W') : sProp 𝕄)
      from Owed_insert d L hW' _)
    iexact HO
  iexact HY

end Cert.Proof.OfKernelIdeal

end
-- ==== Proof.KernelIdeal.Index.lean ====
/-
  The index loop: 208 trips, each moving 16 of the fetched words to their fields and storing them, in reading order, into
  the list of table rows to look up.
-/
module

public import proofs.«01_k».proof.Proof.KernelIdeal.Base

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MT nD τ sig (HIx 1) (Elt F) ℕ UU ℕ

variable (d : Dev nD) (L : grid0.Coords)

/-- The words as fetched, and the first `n` rows to look up in place. -/
def IdxInv (C : Cat.Idx → BitVec 32) (b n : ℕ) : sProp 𝕄 :=
  iprop(((rawV).view.loc (thr d L) ↦{fullShare} rawAt C b)
    ∗ ∃ f : Buf (Elt F) ((idxV).view.loc (thr d L)), ⌜IdxFilled C b n f⌝ ∗ ((idxV).view.loc (thr d L) ↦{fullShare} f))

/-- Where trip `t` stores: row `t / 8`, from column `16 (t % 8)`. -/
theorem off4_val : ∀ t : Fin k0_t2_loop.trips, k0_off4 t = ![t.val / 8, 16 * (t.val % 8)] := by decide +kernel

/-- What a trip leaves in the list: 16 more rows in place. -/
theorem idxFilled_step (C : Cat.Idx → BitVec 32) (b : ℕ) (t : Fin k0_t2_loop.trips) (f : Buf (Elt F) ((idxV).view.loc (thr d L)))
    (h : IdxFilled C b (16 * t.val) f) (w : Vec F S16 .i32) (hw : ∀ l, w l = rawAt C b (ix1 3328 (16 * t.val + (l 0).val))) :
    IdxFilled C b (16 * (t.val + 1))
      (((idxV).access (Rect.unit (s := S26x128) (k0_off4 t) S1x16.size (k0_off4_inb t))).write (Elt F) f
        (shapeCast S1x16 (k0_pay7 lanes 0#32 1#32 t w) shapeCasts_S16_S1x16) Finset.univ) := by
  have ht : t.val < 208 := trips_t2 ▸ t.isLt
  intro x hx
  have hx0 : (x 0).val < 26 := (x 0).isLt
  have hx1 : (x 1).val < 128 := (x 1).isLt
  have hoff := off4_val t
  by_cases hmem : 16 * t.val ≤ 128 * (x 0).val + (x 1).val
  · let y : S1x16.Idx := ix2 1 16 0 (128 * (x 0).val + (x 1).val - 16 * t.val)
    have hy1 : (y 1).val = 128 * (x 0).val + (x 1).val - 16 * t.val := ix2_val1 _ _ _ _ (by omega)
    have hy0 : (y 0).val = 0 := ix2_val0 _ _ _ _ (by omega)
    have hemb : ((idxV).access (Rect.unit (s := S26x128) (k0_off4 t) S1x16.size (k0_off4_inb t))).emb y = x := by
      funext a
      apply Fin.ext
      match a with
      | 0 =>
        show k0_off4 t 0 + 1 * (y 0).val = (x 0).val
        rw [hoff, hy0]; show t.val / 8 + 1 * 0 = _; omega
      | 1 =>
        show k0_off4 t 1 + 1 * (y 1).val = (x 1).val
        rw [hoff, hy1]; show 16 * (t.val % 8) + 1 * _ = _; omega
    rw [← hemb, View.write_emb_of_mem _ _ (Finset.mem_univ _)]
    rw [hemb]
    show shapeCast S1x16 (k0_pay7 lanes 0#32 1#32 t w) shapeCasts_S16_S1x16 y = _
    unfold shapeCast
    rw [show Shape.reshapeEquiv shapeCasts_S16_S1x16 y = ix1 16 (y 1).val from Shape.reshapeEquiv_eq_of_rowMajor _ (by
      rw [Shape.rowMajor_val_one, Shape.rowMajor_val_two, hy0, ix1_val _ _ (by omega)]
      show (y 1).val = 0 * 16 + (y 1).val; omega)]
    rw [pay7_apply, hw, ix1_val 16 _ (by omega)]
    unfold rawAt rowWord
    rw [ix1_val 3328 _ (by omega), hy1, show 16 * t.val + (128 * (x 0).val + (x 1).val - 16 * t.val) = 128 * (x 0).val + (x 1).val by omega]
  · rw [View.write_of_not_mem]
    · exact h x (by omega)
    · intro hin
      obtain ⟨y, -, hy⟩ := Finset.mem_map.mp hin
      have h0 : k0_off4 t 0 + 1 * (y 0).val = (x 0).val := congrArg (fun z : S26x128.Idx => (z 0).val) hy
      have h1 : k0_off4 t 1 + 1 * (y 1).val = (x 1).val := congrArg (fun z : S26x128.Idx => (z 1).val) hy
      have e0 : k0_off4 t 0 = t.val / 8 := congrFun hoff 0
      have e1 : k0_off4 t 1 = 16 * (t.val % 8) := congrFun hoff 1
      omega

/-- One trip of the index loop. -/
theorem idx_trip (C : Cat.Idx → BitVec 32) (b : ℕ) (t1 : Fin k0_t1_loop.trips) (t : Fin k0_t2_loop.trips) (v2 : BitVec 32) :
    IdxInv (F := F) d L C b (16 * t.val)
      ⊢ wp frame (wpE (defs₀ (F := F)) 𝒱₀ (thr d L) none) Set.univ
          (k0_t2_body L tV (Memref.isWhole_whole _) cV' (Memref.isWhole_whole _) xV (Memref.isWhole_whole _) oV (Memref.isWhole_whole _)
            rawV (Memref.isWhole_whole _) idxV (Memref.isWhole_whole _) rowsV (Memref.isWhole_whole _) numV (Memref.isWhole_whole _)
            asmV (Memref.isWhole_whole _) cc0_scratch5 cc0_scoped0 cc0_scoped1 cc0_scoped2 v2 lanes 0#32 1#32 t1 t ())
          fun _ => IdxInv (F := F) d L C b (16 * (t.val + 1)) := by
  unfold k0_t2_body
  simp only [k0_part1_eq_skeleton]; unfold k0_part1_skel
  simp only [Prog.lift, Prog.bind_op, Prog.bind_ret, Prog.pure_eq_ret]
  unfold IdxInv
  iintro ⟨Hraw, ⟨%f, %hf, Hidx⟩⟩
  iapply (wp_load_rect 𝒱₀ (thr d L) none Set.univ (m := rawV) (r := Rect.unit (s := S3328) (k0_off3 t) S16.size (k0_off3_inb t)) (S := Finset.univ) (q := fullShare) (Finset.subset_univ _)) $$ Hraw
  iintro Hraw
  iapply (wp_load_rect 𝒱₀ (thr d L) none Set.univ (m := idxV) (r := Rect.unit (s := S26x128) (k0_off4 t) S1x16.size (k0_off4_inb t)) (S := Finset.univ) (q := fullShare) (Finset.subset_univ _)) $$ Hidx
  iintro Hidx
  iapply (wp_store 𝒱₀ (thr d L) none Set.univ (m := idxV) (r := Rect.unit (s := S26x128) (k0_off4 t) S1x16.size (k0_off4_inb t)) (S := Finset.univ) (Finset.subset_univ _)) $$ Hidx
  iintro Hidx
  rw [wp_ret]
  imodintro
  isplitl [Hraw]; · iexact Hraw
  iexists _; isplitr
  swap; · iexact Hidx
  ipureintro
  refine idxFilled_step d L C b t f hf _ fun l => ?_
  have ht : t.val < 208 := trips_t2 ▸ t.isLt
  show rawAt C b _ = rawAt C b _
  congr 1
  funext a
  apply Fin.ext
  match a with
  | 0 =>
    show k0_off3 t 0 + 1 * (l 0).val = _
    have hl : (l 0).val < 16 := (l 0).isLt
    have e0 : k0_off3 t 0 = 16 * t.val := congrFun (k0_off3_eq t) 0
    rw [ix1_val 3328 _ (by omega)]
    omega

/-- The whole index loop: every row to look up in place. -/
theorem idx_loop (C : Cat.Idx → BitVec 32) (b : ℕ) (t1 : Fin k0_t1_loop.trips) (v2 : BitVec 32)
    {α : Type} {k : Unit → Prog (TpuEff nD τ sig (Elt F) Λ₀ (thr d L).2) α} {Q : α → sProp 𝕄} :
    IdxInv (F := F) d L C b 0
      ⊢ iprop((IdxInv (F := F) d L C b 3328 -∗ wp frame (wpE (defs₀ (F := F)) 𝒱₀ (thr d L) none) Set.univ (k ()) Q)
        -∗ wp frame (wpE (defs₀ (F := F)) 𝒱₀ (thr d L) none) Set.univ
          (Scf.Loop.for k0_t2_loop k0_t2_ok ⟨⟩
            (k0_t2_body L tV (Memref.isWhole_whole _) cV' (Memref.isWhole_whole _) xV (Memref.isWhole_whole _) oV (Memref.isWhole_whole _)
              rawV (Memref.isWhole_whole _) idxV (Memref.isWhole_whole _) rowsV (Memref.isWhole_whole _) numV (Memref.isWhole_whole _)
              asmV (Memref.isWhole_whole _) cc0_scratch5 cc0_scoped0 cc0_scoped1 cc0_scoped2 v2 lanes 0#32 1#32 t1) >>= k) Q) := by
  iintro H Hk
  iapply (Scf.wp_for_bind frame (wpE (defs₀ (F := F)) 𝒱₀ (thr d L) none) Set.univ k0_t2_loop.lb k0_t2_loop.ub k0_t2_loop.st k0_t2_ok ⟨⟩ _
    (fun n _ => IdxInv (F := F) d L C b (16 * n)) fun t _ => idx_trip d L C b t1 t v2) $$ H
  iintro %acc H
  iapply Hk
  rw [show Scf.trips k0_t2_loop.lb k0_t2_loop.ub k0_t2_loop.st = 208 from trips_t2]
  iexact H

end Cert.Proof.OfKernelIdeal

end
-- ==== Proof.KernelIdeal.Assemble.lean ====
/-
  The assembly loop: 128 trips, each storing one group's 26 looked-up rows and its numeric features, one after another,
  at the end of the results assembled so far.  Every store is the same step at its own place (`wp_field`).
-/
module

public import proofs.«01_k».proof.Proof.KernelIdeal.Index

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MT nD τ sig (HIx 1) (Elt F) ℕ UU ℕ

variable (d : Dev nD) (L : grid0.Coords)

/-- The results of the 128 groups from `b` on. -/
def resultAt (T : Tbl.Idx → Elt F .f32) (C : Cat.Idx → BitVec 32) (X : Num.Idx → Elt F .f32) (b j : ℕ) : Elt F .f32 := flatAt T C X (429 * b + j)

/-- The rows looked up, the numeric features, and the first `n` results in place. -/
def AsmInv (T : Tbl.Idx → Elt F .f32) (C : Cat.Idx → BitVec 32) (X : Num.Idx → Elt F .f32) (b : ℕ)
    (fx : Buf (Elt F) ((numV).view.loc (thr d L))) (n : ℕ) : sProp 𝕄 :=
  iprop(((rowsV).view.loc (thr d L) ↦{fullShare} rowsAt T C b) ∗ ((numV).view.loc (thr d L) ↦{fullShare} fx)
    ∗ ∃ f : Buf (Elt F) ((asmV).view.loc (thr d L)), ⌜Filled (resultAt T C X b) n f⌝ ∗ ((asmV).view.loc (thr d L) ↦{fullShare} f))

/-- Row `n` of the rows looked up. -/
def rowVec (T : Tbl.Idx → Elt F .f32) (C : Cat.Idx → BitVec 32) (b n : ℕ) : Vec F S1x16 .f32 := fun y => looked T C b n (y 1).val

theorem rowVec_cast (T : Tbl.Idx → Elt F .f32) (C : Cat.Idx → BitVec 32) (b n : ℕ) (l : S16.Idx) :
    shapeCast S16 (rowVec T C b n) shapeCasts_S1x16_S16 l = looked T C b n (l 0).val := by
  have hl : (l 0).val < 16 := (l 0).isLt
  unfold shapeCast
  rw [show Shape.reshapeEquiv shapeCasts_S1x16_S16 l = ix2 1 16 0 (l 0).val from Shape.reshapeEquiv_eq_of_rowMajor _ (by
    rw [Shape.rowMajor_val_one, Shape.rowMajor_val_two, ix2_val0 _ _ _ _ (by omega), ix2_val1 _ _ _ _ (by omega)]
    show 0 * 16 + (l 0).val = (l 0).val; omega)]
  unfold rowVec
  rw [ix2_val1 _ _ _ _ hl]

section Steps

variable {d L}
variable {T : Tbl.Idx → Elt F .f32} {C : Cat.Idx → BitVec 32} {X : Num.Idx → Elt F .f32} {b : ℕ} {fx : Buf (Elt F) ((numV).view.loc (thr d L))}

/-- The load of field `f`'s row of group `t`. -/
theorem wp_look {α : Type} {Q : α → sProp 𝕄} {t f : ℕ} {off : Fin 2 → ℕ} {inb : ∀ a, off a + S1x16.size a ≤ S3328x16.size a} [hc : ClosedOff off]
    {hl : (rowsV).view.LoadsAt (Rect.unit (s := S3328x16) off S1x16.size inb).toLoadRect}
    {k : Vec F S1x16 .f32 → Prog (TpuEff nD τ sig (Elt F) Λ₀ (thr d L).2) α}
    (h0 : hc.form 0 = 26 * t + f) (h1 : hc.form 1 = 0)
    (hk : AsmInv (F := F) d L T C X b fx (429 * t + 16 * f)
      ⊢ wp frame (wpE (defs₀ (F := F)) 𝒱₀ (thr d L) none) Set.univ (k (rowVec T C b (26 * t + f))) Q) :
    AsmInv (F := F) d L T C X b fx (429 * t + 16 * f)
      ⊢ wp frame (wpE (defs₀ (F := F)) 𝒱₀ (thr d L) none) Set.univ
          (.op (.load rowsV (Rect.unit (s := S3328x16) off S1x16.size inb).toLoadRect hl) k) Q := by
  have hread : ((rowsV).access (Rect.unit (s := S3328x16) off S1x16.size inb)).read (Elt F) (rowsAt T C b) = rowVec T C b (26 * t + f) := by
    funext y
    have e0 : off 0 = 26 * t + f := (congrFun hc.eq 0).trans h0
    have e1 : off 1 = 0 := (congrFun hc.eq 1).trans h1
    have hy : (y 0).val < 1 := (y 0).isLt
    show looked T C b (off 0 + 1 * (y 0).val) (off 1 + 1 * (y 1).val) = looked T C b (26 * t + f) (y 1).val
    rw [e0, e1, show 26 * t + f + 1 * (y 0).val = 26 * t + f by omega, show 0 + 1 * (y 1).val = (y 1).val by omega]
  unfold AsmInv at hk ⊢
  iintro ⟨Hrows, Hnum, Hasm⟩
  iapply (wp_load_rect 𝒱₀ (thr d L) none Set.univ (m := rowsV) (r := Rect.unit (s := S3328x16) off S1x16.size inb) (S := Finset.univ) (q := fullShare)
    (f := rowsAt T C b) (Finset.subset_univ _)) $$ Hrows
  rw [hread]
  iintro Hrows
  iapply hk
  isplitl [Hrows]; · iexact Hrows
  isplitl [Hnum]; · iexact Hnum
  iexact Hasm

/-- A store of consecutive lanes, `m` of them, right after the results in place. -/
theorem wp_put {α : Type} {Q : α → sProp 𝕄} {n m : ℕ} {v : IVec S16 32} {w : Vec F S16 .f32} {mask : IVec S16 1}
    {dc : Decidable (∀ a x, ((![v] : Fin 1 → IVec S16 32) a x).toNat < S54912.size a)}
    {hs : ((asmV).access (.whole S54912)).Stores Finset.univ}
    {k : PUnit → Prog (TpuEff nD τ sig (Elt F) Λ₀ (thr d L).2) α}
    (hv : ∀ l, mask l = 1 → (v l).toNat = n + (l 0).val) (hlast : ∀ l, (v l).toNat < 54912) (hm : m ≤ 16)
    (hw : ∀ l, mask l = 1 → w l = resultAt T C X b (n + (l 0).val)) (hmask : ∀ l : S16.Idx, (l 0).val < m → mask l = 1)
    (hk : AsmInv (F := F) d L T C X b fx (n + m) ⊢ wp frame (wpE (defs₀ (F := F)) 𝒱₀ (thr d L) none) Set.univ (k ⟨⟩) Q) :
    AsmInv (F := F) d L T C X b fx n
      ⊢ wp frame (wpE (defs₀ (F := F)) 𝒱₀ (thr d L) none) Set.univ
          (.op (.assume (∀ a x, ((![v] : Fin 1 → IVec S16 32) a x).toNat < S54912.size a) dc) fun h =>
            SparseCore.vectorStoreIdx asmV ![v] w mask false h.down hs >>= k) Q := by
  have hP : ∀ a x, ((![v] : Fin 1 → IVec S16 32) a x).toNat < S54912.size a := fun a x => by
    match a with
    | 0 => exact hlast x
  rw [wp_assume_of _ _ _ _ hP]
  unfold AsmInv at hk ⊢
  iintro ⟨Hrows, Hnum, ⟨%f, %hf, Hasm⟩⟩
  have hset : ((asmV).access (.whole S54912)).set = Finset.univ := Memref.set_access_whole cc0_scratch4
  ihave Hasm' := (Entails.of_eq (show ((asmV).view.loc (thr d L) ↦{fullShare} f : sProp 𝕄)
    = (((asmV).access (.whole S54912)).loc (thr d L) ↦[((asmV).access (.whole S54912)).set]{fullShare} f) by rw [hset])) $$ Hasm
  iapply (SparseCore.wp_vectorStoreIdx 𝒱₀ (thr d L) none Set.univ (base := asmV)) $$ Hasm'
  rw [hset]
  iintro Hasm
  iapply hk
  isplitl [Hrows]; · iexact Hrows
  isplitl [Hnum]; · iexact Hnum
  iexists _; isplitr
  swap; · iexact Hasm
  ipureintro
  have key : ∀ z g : Vec F S54912 .f32, z = f → g = storeIdx z ![v] w mask false hP → Filled (resultAt T C X b) (n + m) g := by
    rintro _ _ rfl rfl
    exact storeIdx_filled (N := 54912) (D := 16) (resultAt T C X b) _ n m hm hv hw hmask hf
  exact key _ _ (Memref.read_access_whole (Elt F) cc0_scratch4 f) (Memref.write_access_whole_univ (Elt F) cc0_scratch4 f _)

/-- The store of field `f` of group `t`, all 16 lanes. -/
theorem wp_field {α : Type} {Q : α → sProp 𝕄} (hC : InVocab C) {t : Fin k0_t3_loop.trips} {f : ℕ} {v : IVec S16 32} {w : Vec F S16 .f32}
    {dc : Decidable (∀ a x, ((![v] : Fin 1 → IVec S16 32) a x).toNat < S54912.size a)}
    {hs : ((asmV).access (.whole S54912)).Stores Finset.univ}
    {k : PUnit → Prog (TpuEff nD τ sig (Elt F) Λ₀ (thr d L).2) α} (hf : f < 26)
    (hv : v = addi (broadcast S16 (Scalar.addi (Scalar.muli (Scf.iv 0#32 1#32 t) 429#32) (BitVec.ofNat 32 (16 * f)))) lanes)
    (hw : w = shapeCast S16 (rowVec T C b (26 * t.val + f)) shapeCasts_S1x16_S16)
    (hk : AsmInv (F := F) d L T C X b fx (429 * t.val + 16 * (f + 1))
      ⊢ wp frame (wpE (defs₀ (F := F)) 𝒱₀ (thr d L) none) Set.univ (k ⟨⟩) Q) :
    AsmInv (F := F) d L T C X b fx (429 * t.val + 16 * f)
      ⊢ wp frame (wpE (defs₀ (F := F)) 𝒱₀ (thr d L) none) Set.univ
          (.op (.assume (∀ a x, ((![v] : Fin 1 → IVec S16 32) a x).toNat < S54912.size a) dc) fun h =>
            SparseCore.vectorStoreIdx asmV ![v] w (fun _ => 1#1) false h.down hs >>= k) Q := by
  have ht : t.val < 128 := trips_t3 ▸ t.isLt
  have hv' : ∀ l, (v l).toNat = 429 * t.val + 16 * f + (l 0).val := fun l => by rw [hv]; exact place_val t (16 * f) (by omega) _ rfl l
  refine wp_put (m := 16) (fun l _ => hv' l) (fun l => ?_) le_rfl (fun l _ => ?_) (fun _ _ => rfl)
    (by rw [show 429 * t.val + 16 * f + 16 = 429 * t.val + 16 * (f + 1) by omega]; exact hk)
  · have hl : (l 0).val < 16 := (l 0).isLt
    rw [hv' l]; omega
  · rw [hw, rowVec_cast]
    exact (flatAt_field T hC X b t.val f (l 0).val hf (l 0).isLt).symm

/-- The numeric features' load of group `t`. -/
theorem wp_numeric {α : Type} {Q : α → sProp 𝕄} {n : ℕ} {u : IVec S16 32}
    {dc : Decidable (∀ a x, ((![u] : Fin 1 → IVec S16 32) a x).toNat < S1680.size a)} {hl : (numV).view.Loads}
    {k : Vec F S16 .f32 → Prog (TpuEff nD τ sig (Elt F) Λ₀ (thr d L).2) α}
    (hP : ∀ a x, ((![u] : Fin 1 → IVec S16 32) a x).toNat < S1680.size a)
    (hk : AsmInv (F := F) d L T C X b fx n
      ⊢ wp frame (wpE (defs₀ (F := F)) 𝒱₀ (thr d L) none) Set.univ (k (loadIdx (s := S1680) fx ![u] hP)) Q) :
    AsmInv (F := F) d L T C X b fx n
      ⊢ wp frame (wpE (defs₀ (F := F)) 𝒱₀ (thr d L) none) Set.univ
          (.op (.assume (∀ a x, ((![u] : Fin 1 → IVec S16 32) a x).toNat < S1680.size a) dc) fun h =>
            SparseCore.vectorLoadIdx numV ![u] h.down hl >>= k) Q := by
  rw [wp_assume_of _ _ _ _ hP]
  unfold AsmInv at hk ⊢
  iintro ⟨Hrows, Hnum, Hasm⟩
  iapply (SparseCore.wp_vectorLoadIdx 𝒱₀ (thr d L) none Set.univ (base := numV) (S := Finset.univ) (q := fullShare) (f := fx) (Finset.subset_univ _)) $$ Hnum
  have e : ((numV).access (.whole S1680)).read (Elt F) fx = fx := Memref.read_access_whole (Elt F) cc0_scratch3 fx
  rw [e]
  iintro Hnum
  iapply hk
  isplitl [Hrows]; · iexact Hrows
  isplitl [Hnum]; · iexact Hnum
  iexact Hasm

end Steps

set_option maxHeartbeats 4000000 in
/-- One trip: the 429 results of group `t`. -/
theorem asm_trip {T : Tbl.Idx → Elt F .f32} {C : Cat.Idx → BitVec 32} (hC : InVocab C) {X : Num.Idx → Elt F .f32} {b : ℕ}
    {fx : Buf (Elt F) ((numV).view.loc (thr d L))} (hfx : NumFilled X b fx) (t : Fin k0_t3_loop.trips) :
    AsmInv (F := F) d L T C X b fx (429 * t.val)
      ⊢ wp frame (wpE (defs₀ (F := F)) 𝒱₀ (thr d L) none) Set.univ
          (k0_t3_body L tV (Memref.isWhole_whole _) cV' (Memref.isWhole_whole _) xV (Memref.isWhole_whole _) oV (Memref.isWhole_whole _)
            rawV (Memref.isWhole_whole _) idxV (Memref.isWhole_whole _) rowsV (Memref.isWhole_whole _) numV (Memref.isWhole_whole _)
            asmV (Memref.isWhole_whole _) cc0_scratch5 cc0_scoped0 cc0_scoped1 cc0_scoped2 lanes t ())
          fun _ => AsmInv (F := F) d L T C X b fx (429 * (t.val + 1)) := by
  have ht : t.val < 128 := trips_t3 ▸ t.isLt
  unfold k0_t3_body
  simp only [k0_part2_eq_skeleton, k0_part3_eq_skeleton, k0_part4_eq_skeleton, k0_part5_eq_skeleton, k0_part6_eq_skeleton]
  unfold k0_part2_skel k0_part3_skel k0_part4_skel k0_part5_skel k0_part6_skel
  simp only [Prog.lift, Prog.bind_op, Prog.bind_ret, Prog.pure_eq_ret, Prog.bind_assoc]
  show AsmInv (F := F) d L T C X b fx (429 * t.val + 16 * 0) ⊢ _
  iterate 26
    refine wp_look (t := t.val) rfl rfl ?_
    refine wp_field hC (t := t) (by decide) rfl rfl ?_
  have hP : ∀ a x, ((![k0_pay5 (Scf.iv 0#32 1#32 t)] : Fin 1 → IVec S16 32) a x).toNat < S1680.size a := fun a x => by
    match a with
    | 0 =>
      have hx : (x 0).val < 16 := (x 0).isLt
      refine lt_of_eq_of_lt (source_val t x) ?_
      show _ < 1680; omega
  refine wp_numeric hP ?_
  refine wp_put (m := 13) (fun l hl => last_val t l hl) (fun l => last_lt t l) (by decide) (fun l hl => ?_) (fun l hl => (mask_iff l).mpr hl) ?_
  · have h13 := (mask_iff l).mp hl
    have e : idxAt (s := S1680) ![k0_pay5 (Scf.iv 0#32 1#32 t)] hP l 0 = ⟨13 * t.val + (l 0).val, by show _ < 1680; omega⟩ := Fin.ext (source_val t l)
    refine (hfx _ ?_).trans ?_
    · rw [e]; show 13 * t.val + (l 0).val < 1664; omega
    · rw [e]
      exact (flatAt_numeric T C X b t.val (l 0).val h13).symm
  · rw [wp_ret]
    iintro H
    imodintro
    rw [show 429 * (t.val + 1) = 429 * t.val + 16 * 26 + 13 by omega]
    iexact H

/-- The whole loop: all the results of the 128 groups. -/
theorem asm_loop {T : Tbl.Idx → Elt F .f32} {C : Cat.Idx → BitVec 32} (hC : InVocab C) {X : Num.Idx → Elt F .f32} {b : ℕ}
    {fx : Buf (Elt F) ((numV).view.loc (thr d L))} (hfx : NumFilled X b fx)
    {α : Type} {k : Unit → Prog (TpuEff nD τ sig (Elt F) Λ₀ (thr d L).2) α} {Q : α → sProp 𝕄} :
    AsmInv (F := F) d L T C X b fx 0
      ⊢ iprop((AsmInv (F := F) d L T C X b fx 54912 -∗ wp frame (wpE (defs₀ (F := F)) 𝒱₀ (thr d L) none) Set.univ (k ()) Q)
        -∗ wp frame (wpE (defs₀ (F := F)) 𝒱₀ (thr d L) none) Set.univ
          (Scf.Loop.for k0_t3_loop k0_t3_ok ⟨⟩
            (k0_t3_body L tV (Memref.isWhole_whole _) cV' (Memref.isWhole_whole _) xV (Memref.isWhole_whole _) oV (Memref.isWhole_whole _)
              rawV (Memref.isWhole_whole _) idxV (Memref.isWhole_whole _) rowsV (Memref.isWhole_whole _) numV (Memref.isWhole_whole _)
              asmV (Memref.isWhole_whole _) cc0_scratch5 cc0_scoped0 cc0_scoped1 cc0_scoped2 lanes) >>= k) Q) := by
  iintro H Hk
  iapply (Scf.wp_for_bind frame (wpE (defs₀ (F := F)) 𝒱₀ (thr d L) none) Set.univ k0_t3_loop.lb k0_t3_loop.ub k0_t3_loop.st k0_t3_ok ⟨⟩ _
    (fun n _ => AsmInv (F := F) d L T C X b fx (429 * n)) fun t _ => asm_trip d L hC hfx t) $$ H
  iintro %acc H
  iapply Hk
  rw [show Scf.trips k0_t3_loop.lb k0_t3_loop.ub k0_t3_loop.st = 128 from trips_t3]
  iexact H

end Cert.Proof.OfKernelIdeal

end
-- ==== Proof.KernelIdeal.Copies.lean ====
/-
  The three copies of a trip, each with its wait: the words of the trip's groups, their numeric features, and the
  results written out.
-/
module

public import proofs.«01_k».proof.Proof.KernelIdeal.Gather
public import proofs.«01_k».proof.Proof.KernelIdeal.Assemble

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values
open Idealize.ShloMosaic.Transfers (MayWaits)

variable {F : FTy → Type} [FloatOps F]

local notation "𝕄" => MT nD τ sig (HIx 1) (Elt F) ℕ UU ℕ

variable (d : Dev nD) (L : grid0.Coords)

/-- The results, in reading order: what the call leaves in its output. -/
def flat (T : Tbl.Idx → Elt F .f32) (C : Cat.Idx → BitVec 32) (X : Num.Idx → Elt F .f32) : S35143680.Idx → Elt F .f32 := fun x => flatAt T C X (x 0).val

/-- What every wait of a tile needs. -/
def Waits0 (O : CellTallies nD τ sig (HIx 1)) (W : Waits sig (HIx 1)) : sProp 𝕄 :=
  iprop(MayWaits (thr d L) (default : HIx 1) O ∗ Owed d L O W)

/-- The copy of the words of groups `b` to `b + 127`. -/
theorem wp_words {α : Type} {Q : α → sProp 𝕄} {X : sProp 𝕄} {O : CellTallies nD τ sig (HIx 1)} {W : Waits sig (HIx 1)} {q : PosShare TreeShare}
    {C : Cat.Idx → BitVec 32} {b : ℕ} {off : Fin 1 → ℕ} {inb : ∀ a, off a + S3328.size a ≤ S2129920.size a} (hoff : off 0 = 26 * b)
    {h1 : ((cV').slice (Rect.unit (s := S2129920) off S3328.size inb) (fun _ => rfl)).view.WordExact} {h2 : (rawV).view.WordExact}
    {h3 h4 h5}
    {k : PUnit → Prog (TpuEff nD τ sig (Elt F) Λ₀ (thr d L).2) α}
    (hk : iprop(((rawV).view.loc (thr d L) ↦{fullShare} rawAt C b) ∗ ((cV').view.loc (thr d L) ↦{q} C) ∗ semVal (thr d L, SemLoc.dma cc0_scoped0.sem) 0
        ∗ Waits0 d L O W ∗ X) ⊢ wp frame (wpE (defs₀ (F := F)) 𝒱₀ (thr d L) none) Set.univ (k ⟨⟩) Q) :
    iprop((∃ f, (rawV).view.loc (thr d L) ↦{fullShare} f) ∗ ((cV').view.loc (thr d L) ↦{q} C) ∗ semVal (thr d L, SemLoc.dma cc0_scoped0.sem) 0
        ∗ Waits0 d L O W ∗ X)
      ⊢ wp frame (wpE (defs₀ (F := F)) 𝒱₀ (thr d L) none) Set.univ
          (.op (.enqueueDma ((cV').slice (Rect.unit (s := S2129920) off S3328.size inb) (fun _ => rfl)) (.here rawV) (.dma cc0_scoped0.sem) h1 h2 h3) fun _ =>
            .op (.waitDma2 cc0_scoped0.sem ((cV').slice (Rect.unit (s := S2129920) off S3328.size inb) (fun _ => rfl)) rawV h4 h5) k) Q := by
  unfold Waits0 at hk ⊢
  unfold Owed
  iintro ⟨⟨%f, Hr⟩, Hc, Hs, ⟨#Hmw, %W', %hW', HO⟩, HX⟩
  sl_exec
  have hval : View.write (Elt F) (rawV).view f (wp_words.sl.dma0 (C := C) (off := off) (inb := inb)) Finset.univ = rawAt C b := by
    rw [View.write_whole_univ]
    funext x
    refine congrArg C ?_
    refine (eq_ix1 (n := 2129920) _).trans (congrArg (ix1 2129920) ?_)
    show off 0 + 1 * (x 0).val = _
    omega
  rw [hval]
  iapply hk
  isplitl [Hr]; · iexact Hr
  isplitl [Hc]; · iexact Hc
  isplitl [Hs]; · iexact Hs
  isplitr [HX]
  · isplitr; · iexact Hmw
    iapply (Owed_insert d L hW' _); iexact HO
  iexact HX

/-- The copy of their numeric features. -/
theorem wp_features {α : Type} {Q : α → sProp 𝕄} {Y : sProp 𝕄} {O : CellTallies nD τ sig (HIx 1)} {W : Waits sig (HIx 1)} {q : PosShare TreeShare}
    {X : Num.Idx → Elt F .f32} {b : ℕ} (hb : 13 * b + 1664 ≤ 1064960)
    {off : Fin 1 → ℕ} {inb : ∀ a, off a + S1664.size a ≤ S1064960.size a} (hoff : off 0 = 13 * b)
    {h1 : ((xV).slice (Rect.unit (s := S1064960) off S1664.size inb) (fun _ => rfl)).view.WordExact}
    {h2 : ((numV).slice (Rect.unit (s := S1680) ![0] S1664.size inb_S1680_S1664_0) (fun _ => rfl)).view.WordExact}
    {h3 h4 h5}
    {k : PUnit → Prog (TpuEff nD τ sig (Elt F) Λ₀ (thr d L).2) α}
    (hk : ∀ fx, NumFilled X b fx → iprop(((numV).view.loc (thr d L) ↦{fullShare} fx) ∗ ((xV).view.loc (thr d L) ↦{q} X)
        ∗ semVal (thr d L, SemLoc.dma cc0_scoped1.sem) 0 ∗ Waits0 d L O W ∗ Y) ⊢ wp frame (wpE (defs₀ (F := F)) 𝒱₀ (thr d L) none) Set.univ (k ⟨⟩) Q) :
    iprop((∃ f, (numV).view.loc (thr d L) ↦{fullShare} f) ∗ ((xV).view.loc (thr d L) ↦{q} X) ∗ semVal (thr d L, SemLoc.dma cc0_scoped1.sem) 0
        ∗ Waits0 d L O W ∗ Y)
      ⊢ wp frame (wpE (defs₀ (F := F)) 𝒱₀ (thr d L) none) Set.univ
          (.op (.enqueueDma ((xV).slice (Rect.unit (s := S1064960) off S1664.size inb) (fun _ => rfl))
              (.here ((numV).slice (Rect.unit (s := S1680) ![0] S1664.size inb_S1680_S1664_0) (fun _ => rfl))) (.dma cc0_scoped1.sem) h1 h2 h3) fun _ =>
            .op (.waitDma2 cc0_scoped1.sem ((xV).slice (Rect.unit (s := S1064960) off S1664.size inb) (fun _ => rfl))
              ((numV).slice (Rect.unit (s := S1680) ![0] S1664.size inb_S1680_S1664_0) (fun _ => rfl)) h4 h5) k) Q := by
  unfold Waits0 at hk ⊢
  unfold Owed
  iintro ⟨⟨%f, Hr⟩, Hc, Hs, ⟨#Hmw, %W', %hW', HO⟩, HY⟩
  sl_exec
  have hfx : NumFilled X b ((numV).view.writes (Elt F) f [⟨Rect.unit ![0] S1664.size inb_S1680_S1664_0, wp_features.sl.dma0 (X := X) (off := off) (inb := inb)⟩]) := by
    intro x hx
    have he : ((numV).view.slice (Rect.unit (s := S1680) ![0] S1664.size inb_S1680_S1664_0)).emb (ix1 1664 (x 0).val) = x := by
      refine (eq_ix1 (n := 1680) _).trans (Eq.trans (congrArg (ix1 1680) ?_) (eq_ix1 (n := 1680) x).symm)
      show 0 + 1 * (ix1 1664 (x 0).val 0).val = (x 0).val
      rw [ix1_val _ _ hx]; omega
    refine (congrArg (View.write (Elt F) ((numV).view.slice (Rect.unit (s := S1680) ![0] S1664.size inb_S1680_S1664_0)) f
      (wp_features.sl.dma0 (X := X) (off := off) (inb := inb)) Finset.univ) he.symm).trans ?_
    refine (View.write_emb_of_mem (v := (numV).view.slice (Rect.unit (s := S1680) ![0] S1664.size inb_S1680_S1664_0)) (Val := Elt F) f _
      (Finset.mem_univ (ix1 1664 (x 0).val))).trans ?_
    refine congrArg X ?_
    refine (eq_ix1 (n := 1064960) _).trans (congrArg (ix1 1064960) ?_)
    show off 0 + 1 * (ix1 1664 (x 0).val 0).val = _
    rw [ix1_val _ _ hx]; omega
  iapply (hk _ hfx)
  isplitl [Hr]; · iexact Hr
  isplitl [Hc]; · iexact Hc
  isplitl [Hs]; · iexact Hs
  isplitr [HY]
  · isplitr; · iexact Hmw
    iapply (Owed_insert d L hW' _); iexact HO
  iexact HY

omit [FloatOps F] in
/-- A view written over the whole of its shape reads as what was written. -/
theorem read_written {κ : Kind} {sp : Space} {s : Shape} {e : EltTy} (v : View sig κ sp s e) (f : v.ty.Contents (Elt F)) (w : s.Idx → Elt F e) (y : s.Idx) :
    v.read (Elt F) (v.writes (Elt F) f [⟨Rect.whole s, w⟩]) y = w y :=
  View.read_writes_cons_hit v f (Rect.whole s) w [] y y (Rect.emb_whole_apply s y)

/-- The copy of the results. -/
theorem wp_results {α : Type} {Q : α → sProp 𝕄} {O : CellTallies nD τ sig (HIx 1)} {W : Waits sig (HIx 1)}
    {T : Tbl.Idx → Elt F .f32} {C : Cat.Idx → BitVec 32} {X : Num.Idx → Elt F .f32} {b : ℕ}
    {g : Buf (Elt F) ((asmV).view.loc (thr d L))} (hg : Filled (resultAt T C X b) 54912 g)
    {off : Fin 1 → ℕ} {inb : ∀ a, off a + S54912.size a ≤ S35143680.size a} (hoff : off 0 = 429 * b)
    {f : Buf (Elt F) ((oV).view.loc (thr d L))}
    {h1 : (asmV).view.WordExact}
    {h2 : ((oV).slice (Rect.unit (s := S35143680) off S54912.size inb) (fun _ => rfl)).view.WordExact}
    {h3 h4 h5}
    {k : PUnit → Prog (TpuEff nD τ sig (Elt F) Λ₀ (thr d L).2) α} :
    iprop(((asmV).view.loc (thr d L) ↦{fullShare} g)
        ∗ ((oV).view.loc (thr d L) ↦[((oV).slice (Rect.unit (s := S35143680) off S54912.size inb) (fun _ => rfl)).view.set]{fullShare} f)
        ∗ semVal (thr d L, SemLoc.dma cc0_scoped2.sem) 0 ∗ Waits0 d L O W)
      ⊢ iprop((iprop(((asmV).view.loc (thr d L) ↦{fullShare} g)
        ∗ ((oV).view.loc (thr d L) ↦[((oV).slice (Rect.unit (s := S35143680) off S54912.size inb) (fun _ => rfl)).view.set]{fullShare} flat T C X)
        ∗ semVal (thr d L, SemLoc.dma cc0_scoped2.sem) 0 ∗ Waits0 d L O W) -∗ wp frame (wpE (defs₀ (F := F)) 𝒱₀ (thr d L) none) Set.univ (k ⟨⟩) Q)
      -∗ wp frame (wpE (defs₀ (F := F)) 𝒱₀ (thr d L) none) Set.univ
          (.op (.enqueueDma asmV (.here ((oV).slice (Rect.unit (s := S35143680) off S54912.size inb) (fun _ => rfl))) (.dma cc0_scoped2.sem) h1 h2 h3) fun _ =>
            .op (.waitDma2 cc0_scoped2.sem asmV ((oV).slice (Rect.unit (s := S35143680) off S54912.size inb) (fun _ => rfl)) h4 h5) k) Q) := by
  unfold Waits0
  iintro ⟨Ha, Ho, Hs, ⟨#Hmw, HO⟩⟩ Hk
  unfold Owed
  icases HO with ⟨%W', %hW', HO⟩
  ihave Ho' := (Entails.of_eq (show ((oV).view.loc (thr d L) ↦[((oV).slice (Rect.unit (s := S35143680) off S54912.size inb) (fun _ => rfl)).view.set]{fullShare} f : sProp 𝕄)
    = (((oV).slice (Rect.unit (s := S35143680) off S54912.size inb) (fun _ => rfl)).view.loc (thr d L)
        ↦[((oV).slice (Rect.unit (s := S35143680) off S54912.size inb) (fun _ => rfl)).view.set]{fullShare} f) from rfl)) $$ Ho
  sl_exec
  have hval : ∀ x ∈ ((oV).slice (Rect.unit (s := S35143680) off S54912.size inb) (fun _ => rfl)).view.set,
      ((oV).slice (Rect.unit (s := S35143680) off S54912.size inb) (fun _ => rfl)).view.writes (Elt F) f
        [⟨Rect.whole (Rect.unit (s := S35143680) off S54912.size inb).shape, wp_results.sl.dma0 d L (g := g)⟩] x = flat T C X x := by
    intro x hx
    obtain ⟨y, -, rfl⟩ := Finset.mem_map.mp hx
    have hy : (y (0 : Fin 1)).val < 54912 := (y (0 : Fin 1)).isLt
    have h1 := read_written (F := F) ((oV).slice (Rect.unit (s := S35143680) off S54912.size inb) (fun _ => rfl)).view f (wp_results.sl.dma0 d L (g := g)) y
    have h2 : wp_results.sl.dma0 d L (g := g) y = resultAt T C X b (y (0 : Fin 1)).val := hg y hy
    refine Eq.trans (b := wp_results.sl.dma0 d L (g := g) y) ?_ (h2.trans ?_)
    · rw [View.read_apply, cast_eq] at h1
      exact h1
    unfold resultAt flat
    refine congrArg (flatAt T C X) ?_
    show _ = off 0 + 1 * (y (0 : Fin 1)).val
    omega
  ihave Ho2 := (Entails.of_eq (show ((((oV).slice (Rect.unit (s := S35143680) off S54912.size inb) (fun _ => rfl)).view.loc (thr d L)
        ↦[((oV).slice (Rect.unit (s := S35143680) off S54912.size inb) (fun _ => rfl)).view.set]{fullShare} _) : sProp 𝕄)
    = ((oV).view.loc (thr d L) ↦[((oV).slice (Rect.unit (s := S35143680) off S54912.size inb) (fun _ => rfl)).view.set]{fullShare} flat T C X)
      from pointsTo_congr hval)) $$ Ho'
  iapply Hk
  isplitl [Ha]; · iexact Ha
  isplitl [Ho2]; · iexact Ho2
  isplitl [Hs]; · iexact Hs
  isplitr; · iexact Hmw
  iexists _
  isplitr
  swap; · iexact HO
  ipureintro
  exact insert_ok hW' _

end Cert.Proof.OfKernelIdeal

end
-- ==== Proof.KernelIdeal.Tile.lean ====
/-
  A tile's task: twenty trips, each of 128 groups.
-/
module

public import proofs.«01_k».proof.Proof.KernelIdeal.Copies
public import proofs.«01_k».proof.Proof.KernelIdeal.Index

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values
open Idealize.ShloMosaic.Transfers (MayWaits)

variable {F : FTy → Type} [FloatOps F]

local notation "𝕄" => MT nD τ sig (HIx 1) (Elt F) ℕ UU ℕ

variable (d : Dev nD) (L : grid0.Coords)

/-- The number of a tile, by which the groups are dealt out; -/
def tileNo : ℕ := 2 * (L 1).val + (L 0).val
/-- the first group of its trip `t`. -/
def groupAt (t : ℕ) : ℕ := 2560 * tileNo L + 128 * t

theorem tileNo_lt : tileNo L < 32 := by
  have h0 : (L 0).val < 2 := (L 0).isLt
  have h1 : (L 1).val < 16 := (L 1).isLt
  unfold tileNo; omega

/-- The results a tile writes. -/
def blockSet : Finset (Idx ((oV).view.loc (thr d L))) :=
  Finset.univ.filter fun x : S35143680.Idx => 1098240 * tileNo L ≤ (x 0).val ∧ (x 0).val < 1098240 * tileNo L + 1098240

/-- The results of the first `t` trips are written. -/
def BlockTo (T : Tbl.Idx → Elt F .f32) (C : Cat.Idx → BitVec 32) (X : Num.Idx → Elt F .f32) (t : ℕ) : sProp 𝕄 :=
  iprop(∃ f, ⌜∀ x ∈ blockSet d L, (x (0 : Fin 1)).val < 1098240 * tileNo L + 54912 * t → f x = flat T C X x⌝ ∗ ((oV).view.loc (thr d L) ↦[blockSet d L]{fullShare} f))

/-- One trip's stretch of them. -/
abbrev stretch (off : Fin 1 → ℕ) (inb : ∀ a, off a + S54912.size a ≤ S35143680.size a) : Finset (Idx ((oV).view.loc (thr d L))) :=
  ((oV).slice (Rect.unit (s := S35143680) off S54912.size inb) (fun _ => rfl)).view.set

theorem mem_stretch {off : Fin 1 → ℕ} {inb : ∀ a, off a + S54912.size a ≤ S35143680.size a} (x : S35143680.Idx) :
    x ∈ stretch d L off inb ↔ off 0 ≤ (x 0).val ∧ (x 0).val < off 0 + 54912 := by
  constructor
  · intro hx
    obtain ⟨y, -, rfl⟩ := Finset.mem_map.mp hx
    have hy : (y (0 : Fin 1)).val < 54912 := (y (0 : Fin 1)).isLt
    show off 0 ≤ off 0 + 1 * (y (0 : Fin 1)).val ∧ off 0 + 1 * (y (0 : Fin 1)).val < off 0 + 54912
    omega
  · intro ⟨h1, h2⟩
    refine Finset.mem_map.mpr ⟨ix1 54912 ((x 0).val - off 0), Finset.mem_univ _, ?_⟩
    refine (eq_ix1 (n := 35143680) _).trans (Eq.trans (congrArg (ix1 35143680) ?_) (eq_ix1 (n := 35143680) x).symm)
    show off 0 + 1 * (ix1 54912 ((x 0).val - off 0) 0).val = (x 0).val
    rw [ix1_val _ _ (by omega)]; omega

variable {d L}

/-- Before a trip's results are written: its stretch apart from the rest; -/
theorem block_split {T : Tbl.Idx → Elt F .f32} {C : Cat.Idx → BitVec 32} {X : Num.Idx → Elt F .f32} {t : ℕ} (ht : t < 20)
    {off : Fin 1 → ℕ} {inb : ∀ a, off a + S54912.size a ≤ S35143680.size a} (hoff : off 0 = 429 * groupAt L t) :
    BlockTo (F := F) d L T C X t
      ⊢ iprop(∃ f, ⌜∀ x ∈ blockSet d L, (x (0 : Fin 1)).val < 1098240 * tileNo L + 54912 * t → f x = flat T C X x⌝
          ∗ ((oV).view.loc (thr d L) ↦[stretch d L off inb]{fullShare} f) ∗ ((oV).view.loc (thr d L) ↦[blockSet d L \ stretch d L off inb]{fullShare} f)) := by
  have hsub : stretch d L off inb ⊆ blockSet d L := fun x hx => by
    have h := (mem_stretch d L x).mp hx
    unfold groupAt at hoff
    exact Finset.mem_filter.mpr ⟨Finset.mem_univ _, by omega⟩
  unfold BlockTo
  iintro ⟨%f, %hf, H⟩
  ihave H := (pointsTo_split_subset hsub).1 $$ H
  icases H with ⟨H1, H2⟩
  iexists f
  isplitr; · ipureintro; exact hf
  isplitl [H1]; · iexact H1
  iexact H2

/-- after, together again. -/
theorem block_join {T : Tbl.Idx → Elt F .f32} {C : Cat.Idx → BitVec 32} {X : Num.Idx → Elt F .f32} {t : ℕ} (ht : t < 20)
    {off : Fin 1 → ℕ} {inb : ∀ a, off a + S54912.size a ≤ S35143680.size a} (hoff : off 0 = 429 * groupAt L t)
    {f : Buf (Elt F) ((oV).view.loc (thr d L))} (hf : ∀ x ∈ blockSet d L, (x (0 : Fin 1)).val < 1098240 * tileNo L + 54912 * t → f x = flat T C X x) :
    iprop(((oV).view.loc (thr d L) ↦[stretch d L off inb]{fullShare} flat T C X) ∗ ((oV).view.loc (thr d L) ↦[blockSet d L \ stretch d L off inb]{fullShare} f))
      ⊢ BlockTo (F := F) d L T C X (t + 1) := by
  have hsub : stretch d L off inb ⊆ blockSet d L := fun x hx => by
    have h := (mem_stretch d L x).mp hx
    unfold groupAt at hoff
    exact Finset.mem_filter.mpr ⟨Finset.mem_univ _, by omega⟩
  classical
  have e1 : ∀ x ∈ stretch d L off inb, flat T C X x = (fun x => if x ∈ stretch d L off inb then flat T C X x else f x) x := fun x hx => (if_pos hx).symm
  have e2 : ∀ x ∈ blockSet d L \ stretch d L off inb, f x = (fun x => if x ∈ stretch d L off inb then flat T C X x else f x) x :=
    fun x hx => (if_neg (Finset.mem_sdiff.mp hx).2).symm
  unfold BlockTo
  rw [pointsTo_congr e1, pointsTo_congr e2]
  iintro H
  iexists _
  isplitr
  swap
  · iapply (pointsTo_split_subset hsub).2; iexact H
  ipureintro
  intro x hx hlt
  by_cases h : x ∈ stretch d L off inb
  · exact if_pos h
  · refine (if_neg h).trans (hf x hx ?_)
    by_contra hge
    refine h ((mem_stretch d L x).mpr ?_)
    unfold groupAt at hoff
    omega

variable (d L)

/-- A tile's part of the call, the results of its first `t` trips written: the shares of what it reads, its block of
    results, its scratch buffers at some contents, its semaphores at zero. -/
def TileInv (q : PosShare TreeShare) (T : Tbl.Idx → Elt F .f32) (C : Cat.Idx → BitVec 32) (X : Num.Idx → Elt F .f32)
    (O : CellTallies nD τ sig (HIx 1)) (W : Waits sig (HIx 1)) (t : ℕ) : sProp 𝕄 :=
  iprop((∃ f, (rawV).view.loc (thr d L) ↦{fullShare} f) ∗ (∃ f, (idxV).view.loc (thr d L) ↦{fullShare} f) ∗ (∃ f, (rowsV).view.loc (thr d L) ↦{fullShare} f)
    ∗ (∃ f, (numV).view.loc (thr d L) ↦{fullShare} f) ∗ (∃ f, (asmV).view.loc (thr d L) ↦{fullShare} f)
    ∗ ((tV).view.loc (thr d L) ↦{q} T) ∗ ((cV').view.loc (thr d L) ↦{q} C) ∗ ((xV).view.loc (thr d L) ↦{q} X) ∗ BlockTo d L T C X t
    ∗ semVal (thr d L, SemLoc.dma cc0_scratch5.sem) 0 ∗ semVal (thr d L, SemLoc.dma cc0_scoped0.sem) 0
    ∗ semVal (thr d L, SemLoc.dma cc0_scoped1.sem) 0 ∗ semVal (thr d L, SemLoc.dma cc0_scoped2.sem) 0 ∗ Waits0 d L O W)

omit [FloatOps F] in
theorem via {P Q R : sProp 𝕄} (h1 : P ⊢ Q) (h2 : Q ⊢ R) : P ⊢ R := h1.trans h2

set_option maxHeartbeats 4000000 in
/-- One trip. -/
theorem trip {q : PosShare TreeShare} {T : Tbl.Idx → Elt F .f32} {C : Cat.Idx → BitVec 32} (hC : InVocab C) {X : Num.Idx → Elt F .f32}
    {O : CellTallies nD τ sig (HIx 1)} {W : Waits sig (HIx 1)} (t : Fin k0_t1_loop.trips) (v2 : BitVec 32) :
    TileInv (F := F) d L q T C X O W t.val
      ⊢ wp frame (wpE (defs₀ (F := F)) 𝒱₀ (thr d L) none) Set.univ
          (k0_t1_body L tV (Memref.isWhole_whole _) cV' (Memref.isWhole_whole _) xV (Memref.isWhole_whole _) oV (Memref.isWhole_whole _)
            rawV (Memref.isWhole_whole _) idxV (Memref.isWhole_whole _) rowsV (Memref.isWhole_whole _) numV (Memref.isWhole_whole _)
            asmV (Memref.isWhole_whole _) cc0_scratch5 cc0_scoped0 cc0_scoped1 cc0_scoped2 v2 lanes t ())
          fun _ => TileInv (F := F) d L q T C X O W (t.val + 1) := by
  have ht : t.val < 20 := trips_t1 ▸ t.isLt
  have hL := tileNo_lt L
  have o1 : k0_off1 L t 0 = 26 * groupAt L t.val := by
    refine (congrFun (k0_off1_eq L t) 0).trans ?_
    show 133120 * (L 1).val + 66560 * (L 0).val + 3328 * t.val = _
    unfold groupAt tileNo; omega
  have o2 : k0_off2 L t 0 = 13 * groupAt L t.val := by
    refine (congrFun (k0_off2_eq L t) 0).trans ?_
    show 66560 * (L 1).val + 33280 * (L 0).val + 1664 * t.val = _
    unfold groupAt tileNo; omega
  have o3 : k0_off31 L t 0 = 429 * groupAt L t.val := by
    refine (congrFun (k0_off31_eq L t) 0).trans ?_
    show 2196480 * (L 1).val + 1098240 * (L 0).val + 54912 * t.val = _
    unfold groupAt tileNo; omega
  have hb : 13 * groupAt L t.val + 1664 ≤ 1064960 := by unfold groupAt; omega
  unfold k0_t1_body
  simp only [k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton]
  unfold k0_part7_skel k0_part8_skel k0_part9_skel k0_part10_skel k0_part11_skel k0_part12_skel k0_part13_skel k0_part14_skel k0_part15_skel k0_part16_skel
  simp only [Prog.lift, Prog.bind_op, Prog.bind_ret, Prog.pure_eq_ret, Prog.bind_assoc]
  refine via (Q := iprop((∃ f, (rawV).view.loc (thr d L) ↦{fullShare} f) ∗ ((cV').view.loc (thr d L) ↦{q} C) ∗ semVal (thr d L, SemLoc.dma cc0_scoped0.sem) 0 ∗ Waits0 d L O W
      ∗ (∃ f, (idxV).view.loc (thr d L) ↦{fullShare} f) ∗ (∃ f, (rowsV).view.loc (thr d L) ↦{fullShare} f) ∗ (∃ f, (numV).view.loc (thr d L) ↦{fullShare} f) ∗ (∃ f, (asmV).view.loc (thr d L) ↦{fullShare} f) ∗ ((tV).view.loc (thr d L) ↦{q} T) ∗ ((xV).view.loc (thr d L) ↦{q} X) ∗ BlockTo d L T C X t.val ∗ semVal (thr d L, SemLoc.dma cc0_scratch5.sem) 0 ∗ semVal (thr d L, SemLoc.dma cc0_scoped1.sem) 0 ∗ semVal (thr d L, SemLoc.dma cc0_scoped2.sem) 0)) ?_ (wp_words d L o1 ?_)
  · unfold TileInv
    iintro ⟨Hraw, Hidx, Hrows, Hnum, Hasm, Ht, Hc, Hx, Ho, S5, S0, S1, S2, HW⟩
    isplitl [Hraw]; · iexact Hraw
    isplitl [Hc]; · iexact Hc
    isplitl [S0]; · iexact S0
    isplitl [HW]; · iexact HW
    isplitl [Hidx]; · iexact Hidx
    isplitl [Hrows]; · iexact Hrows
    isplitl [Hnum]; · iexact Hnum
    isplitl [Hasm]; · iexact Hasm
    isplitl [Ht]; · iexact Ht
    isplitl [Hx]; · iexact Hx
    isplitl [Ho]; · iexact Ho
    isplitl [S5]; · iexact S5
    isplitl [S1]; · iexact S1
    iexact S2
  refine via (Q := iprop((∃ f, (numV).view.loc (thr d L) ↦{fullShare} f) ∗ ((xV).view.loc (thr d L) ↦{q} X) ∗ semVal (thr d L, SemLoc.dma cc0_scoped1.sem) 0 ∗ Waits0 d L O W
      ∗ ((rawV).view.loc (thr d L) ↦{fullShare} rawAt C (groupAt L t.val)) ∗ ((cV').view.loc (thr d L) ↦{q} C) ∗ semVal (thr d L, SemLoc.dma cc0_scoped0.sem) 0 ∗ (∃ f, (idxV).view.loc (thr d L) ↦{fullShare} f) ∗ (∃ f, (rowsV).view.loc (thr d L) ↦{fullShare} f) ∗ (∃ f, (asmV).view.loc (thr d L) ↦{fullShare} f) ∗ ((tV).view.loc (thr d L) ↦{q} T) ∗ BlockTo d L T C X t.val ∗ semVal (thr d L, SemLoc.dma cc0_scratch5.sem) 0 ∗ semVal (thr d L, SemLoc.dma cc0_scoped2.sem) 0)) ?_ (wp_features d L hb o2 fun fx hfx => ?_)
  · iintro ⟨Hraw, Hc, S0, HW, Hidx, Hrows, Hnum, Hasm, Ht, Hx, Ho, S5, S1, S2⟩
    isplitl [Hnum]; · iexact Hnum
    isplitl [Hx]; · iexact Hx
    isplitl [S1]; · iexact S1
    isplitl [HW]; · iexact HW
    isplitl [Hraw]; · iexact Hraw
    isplitl [Hc]; · iexact Hc
    isplitl [S0]; · iexact S0
    isplitl [Hidx]; · iexact Hidx
    isplitl [Hrows]; · iexact Hrows
    isplitl [Hasm]; · iexact Hasm
    isplitl [Ht]; · iexact Ht
    isplitl [Ho]; · iexact Ho
    isplitl [S5]; · iexact S5
    iexact S2
  iintro ⟨Hnum, Hx, S1, HW, Hraw, Hc, S0, Hidx, Hrows, Hasm, Ht, Ho, S5, S2⟩
  icases Hidx with ⟨%fi, Hidx⟩
  iapply (idx_loop (F := F) d L C (groupAt L t.val) t v2) $$ [Hraw Hidx]
  · unfold IdxInv
    isplitl [Hraw]; · iexact Hraw
    iexists fi
    isplitr; · ipureintro; exact fun x hx => absurd hx (Nat.not_lt_zero _)
    iexact Hidx
  unfold IdxInv
  iintro ⟨Hraw, %fo, %hfo, Hidx⟩
  icases Hrows with ⟨%fd, Hrows⟩
  unfold Waits0
  icases HW with ⟨#Hmw, HO⟩
  imod (start_of (F := F) (d := d) (L := L) (q := q) (T := T) (C := C) (b := groupAt L t.val) (fo := fo) (fd := fd)
      (X := iprop(MayWaits (thr d L) (default : HIx 1) O ∗ Owed d L O W ∗ ((rawV).view.loc (thr d L) ↦{fullShare} rawAt C (groupAt L t.val)) ∗ ((numV).view.loc (thr d L) ↦{fullShare} fx) ∗ (∃ f, (asmV).view.loc (thr d L) ↦{fullShare} f) ∗ ((cV').view.loc (thr d L) ↦{q} C) ∗ ((xV).view.loc (thr d L) ↦{q} X) ∗ BlockTo d L T C X t.val ∗ semVal (thr d L, SemLoc.dma cc0_scoped0.sem) 0 ∗ semVal (thr d L, SemLoc.dma cc0_scoped1.sem) 0 ∗ semVal (thr d L, SemLoc.dma cc0_scoped2.sem) 0))
      Set.univ) $$ [Hrows Hidx Ht S5 HO Hraw Hnum Hasm Hc Hx Ho S0 S1 S2] with H
  · isplitl [Hrows]; · iexact Hrows
    isplitl [Hidx]; · iexact Hidx
    isplitl [Ht]; · iexact Ht
    isplitl [S5]; · iexact S5
    isplitr; · iexact Hmw
    isplitl [HO]; · iexact HO
    isplitl [Hraw]; · iexact Hraw
    isplitl [Hnum]; · iexact Hnum
    isplitl [Hasm]; · iexact Hasm
    isplitl [Hc]; · iexact Hc
    isplitl [Hx]; · iexact Hx
    isplitl [Ho]; · iexact Ho
    isplitl [S0]; · iexact S0
    isplitl [S1]; · iexact S1
    iexact S2
  iclear Hmw
  istop
  iterate 26
    refine wp_start hC hfo ?_ ?_ ?_ ?_ ?_ ?_
    · decide
    iterate 4
      · rfl
  refine via (waiting_of d L) ?_
  iterate 25
    refine wp_counted d L ?_ ?_
    · decide
  refine wp_all d L ?_
  iintro ⟨⟨Hrows, Hidx, Ht⟩, S5, Hmw, HO, Hraw, Hnum, Hasm, Hc, Hx, Ho, S0, S1, S2⟩
  icases Hasm with ⟨%fa, Hasm⟩
  iapply (asm_loop d L hC hfx) $$ [Hrows Hnum Hasm]
  · unfold AsmInv
    isplitl [Hrows]; · iexact Hrows
    isplitl [Hnum]; · iexact Hnum
    iexists fa
    isplitr; · ipureintro; exact Filled.zero _ _
    iexact Hasm
  unfold AsmInv
  iintro ⟨Hrows, Hnum, %fa', %hfa, Hasm⟩
  ihave Ho := (block_split ht (inb := k0_off31_inb L t) o3) $$ Ho
  icases Ho with ⟨%f, %hf, Ho, Horest⟩
  iapply (wp_results d L hfa o3) $$ [Hasm Ho S2 Hmw HO]
  · unfold Waits0
    isplitl [Hasm]; · iexact Hasm
    isplitl [Ho]; · iexact Ho
    isplitl [S2]; · iexact S2
    isplitl [Hmw]; · iexact Hmw
    iexact HO
  iintro ⟨Hasm, Ho, S2, HW⟩
  rw [wp_ret]
  imodintro
  unfold TileInv
  isplitl [Hraw]; · iexists _; iexact Hraw
  isplitl [Hidx]; · iexists _; iexact Hidx
  isplitl [Hrows]; · iexists _; iexact Hrows
  isplitl [Hnum]; · iexists _; iexact Hnum
  isplitl [Hasm]; · iexists _; iexact Hasm
  isplitl [Ht]; · iexact Ht
  isplitl [Hc]; · iexact Hc
  isplitl [Hx]; · iexact Hx
  isplitl [Ho Horest]
  · iapply (block_join ht (inb := k0_off31_inb L t) o3 hf)
    isplitl [Ho]; · iexact Ho
    iexact Horest
  isplitl [S5]; · iexact S5
  isplitl [S0]; · iexact S0
  isplitl [S1]; · iexact S1
  isplitl [S2]; · iexact S2
  iexact HW

/-- A tile's whole task. -/
theorem trips {q : PosShare TreeShare} {T : Tbl.Idx → Elt F .f32} {C : Cat.Idx → BitVec 32} (hC : InVocab C) {X : Num.Idx → Elt F .f32}
    {O : CellTallies nD τ sig (HIx 1)} {W : Waits sig (HIx 1)} :
    TileInv (F := F) d L q T C X O W 0
      ⊢ wp frame (wpE (defs₀ (F := F)) 𝒱₀ (thr d L) none) Set.univ
          (cc0__sc_body L tV (Memref.isWhole_whole _) cV' (Memref.isWhole_whole _) xV (Memref.isWhole_whole _) oV (Memref.isWhole_whole _)
            rawV (Memref.isWhole_whole _) idxV (Memref.isWhole_whole _) rowsV (Memref.isWhole_whole _) numV (Memref.isWhole_whole _)
            asmV (Memref.isWhole_whole _) cc0_scratch5 cc0_scoped0 cc0_scoped1 cc0_scoped2)
          fun _ => TileInv (F := F) d L q T C X O W 20 := by
  simp only [cc0__sc_body_eq_skeleton]; unfold cc0__sc_body_skel
  iintro H
  iapply (Scf.wp_for_bind frame (wpE (defs₀ (F := F)) 𝒱₀ (thr d L) none) Set.univ k0_t1_loop.lb k0_t1_loop.ub k0_t1_loop.st k0_t1_ok ⟨⟩ _
    (fun n _ => TileInv (F := F) d L q T C X O W n) fun t _ => trip d L hC t _) $$ H
  iintro %acc H
  rw [show Scf.trips k0_t1_loop.lb k0_t1_loop.ub k0_t1_loop.st = 20 from trips_t1]
  simp only [Prog.pure_eq_ret]
  rw [wp_ret]
  imodintro
  iexact H

end Cert.Proof.OfKernelIdeal

end
-- ==== Proof.KernelIdeal.Task.lean ====
/-
  A tile's task from what the call hands it: its own buffers and semaphores taken from the subcore's, and given back.
-/
module

public import proofs.«01_k».proof.Proof.KernelIdeal.Tile

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Values

variable {F : FTy → Type} [FloatOps F]

local notation "𝕄" => MT nD τ sig (HIx 1) (Elt F) ℕ UU ℕ

variable (d : Dev nD) (L : grid0.Coords)

/-- One semaphore of a tile. -/
abbrev cell (s : DmaSem sig) : GSem nD τ sig := (thr d L, .dma s)
/-- One buffer of a tile. -/
abbrev own (b : Ref sig .scVector) : DevRef τ sig := (Proc.scVector (cV L) (jV L)).devRef b

omit [FloatOps F] in
/-- The task's four semaphores are among the subcore's own: they are they, at zero, and the rest. -/
theorem ownSems0_tile :
    (ownSems0 (thr d L) : sProp 𝕄)
      = iprop(semVal (cell d L cc0_scratch5.sem) 0 ∗ semVal (cell d L cc0_scoped0.sem) 0 ∗ semVal (cell d L cc0_scoped1.sem) 0 ∗ semVal (cell d L cc0_scoped2.sem) 0
          ∗ bigSep (((((ownCells (thr d L)).erase (cell d L cc0_scratch5.sem)).erase (cell d L cc0_scoped0.sem)).erase (cell d L cc0_scoped1.sem)).erase (cell d L cc0_scoped2.sem))
              fun g => semVal g 0) := by
  have ne : ∀ s s' : DmaSem sig, s ≠ s' → cell d L s ≠ cell d L s' := fun s s' h e => h (by
    have := congrArg Prod.snd e
    exact SemLoc.dma.inj this)
  have mem : ∀ s : DmaSem sig, (SemLoc.dma s : SemLoc sig).isScoped .scVector = true → cell d L s ∈ ownCells (thr d L) :=
    fun s h => (mem_ownCells (g := cell d L s)).mpr ⟨rfl, h⟩
  unfold SparseCore.Cfg.ownSems0
  rw [SparseCore.bigSep_erase' (mem cc0_scratch5.sem (by decide)),
    SparseCore.bigSep_erase' (Finset.mem_erase.mpr ⟨ne cc0_scoped0.sem _ (by decide), mem _ (by decide)⟩),
    SparseCore.bigSep_erase' (Finset.mem_erase.mpr ⟨ne cc0_scoped1.sem _ (by decide), Finset.mem_erase.mpr ⟨ne _ _ (by decide), mem _ (by decide)⟩⟩),
    SparseCore.bigSep_erase' (Finset.mem_erase.mpr ⟨ne cc0_scoped2.sem _ (by decide), Finset.mem_erase.mpr ⟨ne _ _ (by decide),
      Finset.mem_erase.mpr ⟨ne _ _ (by decide), mem _ (by decide)⟩⟩⟩)]

omit [FloatOps F] in
/-- The five scratch buffers are among the subcore's own: they are they, at some contents, and the rest. -/
theorem ownBufs_tile :
    (ownBufs (thr d L) : sProp 𝕄)
      = iprop((∃ f, (rawV).view.loc (thr d L) ↦{fullShare} f) ∗ (∃ f, (idxV).view.loc (thr d L) ↦{fullShare} f) ∗ (∃ f, (rowsV).view.loc (thr d L) ↦{fullShare} f)
          ∗ (∃ f, (numV).view.loc (thr d L) ↦{fullShare} f) ∗ (∃ f, (asmV).view.loc (thr d L) ↦{fullShare} f)
          ∗ bigSep ((((((ownRefs (τ := τ) (.scVector (cV L) (jV L))).erase (own L cc0_scratch0)).erase (own L cc0_scratch1)).erase (own L cc0_scratch2)).erase (own L cc0_scratch3)).erase (own L cc0_scratch4))
              fun b => iprop(∃ f, ((d, b) : Loc nD τ sig) ↦{fullShare} f)) := by
  have ne : ∀ b b' : Ref sig .scVector, b ≠ b' → own L b ≠ own L b' := fun b b' h e => h (Proc.devRef_injective _ e)
  unfold SparseCore.Cfg.ownBufs
  refine (SparseCore.bigSep_erase' (mem_ownRefs_of_owner (p := Proc.scVector (cV L) (jV L)) (b := own L cc0_scratch0) rfl)).trans ?_
  rw [SparseCore.bigSep_erase' (Finset.mem_erase.mpr ⟨ne cc0_scratch1 _ (by decide), mem_ownRefs_of_owner (p := Proc.scVector (cV L) (jV L)) (b := own L cc0_scratch1) rfl⟩),
    SparseCore.bigSep_erase' (Finset.mem_erase.mpr ⟨ne cc0_scratch2 _ (by decide), Finset.mem_erase.mpr ⟨ne _ _ (by decide),
      mem_ownRefs_of_owner (p := Proc.scVector (cV L) (jV L)) (b := own L cc0_scratch2) rfl⟩⟩),
    SparseCore.bigSep_erase' (Finset.mem_erase.mpr ⟨ne cc0_scratch3 _ (by decide), Finset.mem_erase.mpr ⟨ne _ _ (by decide), Finset.mem_erase.mpr ⟨ne _ _ (by decide),
      mem_ownRefs_of_owner (p := Proc.scVector (cV L) (jV L)) (b := own L cc0_scratch3) rfl⟩⟩⟩),
    SparseCore.bigSep_erase' (Finset.mem_erase.mpr ⟨ne cc0_scratch4 _ (by decide), Finset.mem_erase.mpr ⟨ne _ _ (by decide), Finset.mem_erase.mpr ⟨ne _ _ (by decide),
      Finset.mem_erase.mpr ⟨ne _ _ (by decide), mem_ownRefs_of_owner (p := Proc.scVector (cV L) (jV L)) (b := own L cc0_scratch4) rfl⟩⟩⟩⟩)]

/-- What the call hands a tile, and takes back: a share of what it reads, and its block of results at `f`. -/
def Part (q : PosShare TreeShare) (T : Tbl.Idx → Elt F .f32) (C : Cat.Idx → BitVec 32) (X : Num.Idx → Elt F .f32)
    (f : S35143680.Idx → Elt F .f32) : sProp 𝕄 :=
  iprop(((tV).view.loc (thr d L) ↦{q} T) ∗ ((cV').view.loc (thr d L) ↦{q} C) ∗ ((xV).view.loc (thr d L) ↦{q} X)
    ∗ ((oV).view.loc (thr d L) ↦[blockSet d L]{fullShare} f))

omit [FloatOps F] in
/-- All twenty trips done, the whole block is written. -/
theorem block_done {T : Tbl.Idx → Elt F .f32} {C : Cat.Idx → BitVec 32} {X : Num.Idx → Elt F .f32} :
    BlockTo (F := F) d L T C X 20 ⊢ ((oV).view.loc (thr d L) ↦[blockSet d L]{fullShare} flat T C X) := by
  unfold BlockTo
  iintro ⟨%f, %hf, H⟩
  iapply (Entails.of_eq (pointsTo_congr (fun x hx => hf x hx (by have := (Finset.mem_filter.mp hx).2.2; exact this))))
  iexact H

omit [FloatOps F] in
/-- None done, any contents will do. -/
theorem block_start {T : Tbl.Idx → Elt F .f32} {C : Cat.Idx → BitVec 32} {X : Num.Idx → Elt F .f32} {f : S35143680.Idx → Elt F .f32} :
    ((oV).view.loc (thr d L) ↦[blockSet d L]{fullShare} f) ⊢ BlockTo (F := F) d L T C X 0 := by
  unfold BlockTo
  iintro H
  iexists f
  isplitr
  · ipureintro
    intro x hx h
    have := (Finset.mem_filter.mp hx).2.1
    exact absurd h (by omega)
  iexact H

/-- The task: from its part of the call to the same part, the block of results written. -/
theorem tile_body {q : PosShare TreeShare} {T : Tbl.Idx → Elt F .f32} {C : Cat.Idx → BitVec 32} (hC : InVocab C) {X : Num.Idx → Elt F .f32}
    {f : S35143680.Idx → Elt F .f32} (O : CellTallies nD τ sig (HIx 1)) (W : Waits sig (HIx 1)) (hO : ∀ g, O g none = 0) :
    iprop(levAts (K (F := F)).L (K (F := F)).lev ∗ emp ∗ Part d L q T C X f
        ∗ scopedBufs (thr d L) ∗ scopedSems0 (thr d L) ∗ owes (thr d L) O W)
      ⊢ wp frame (wpE (defs₀ (F := F)) 𝒱₀ (thr d L) none) Set.univ
          (cc0__sc_body L tV (Memref.isWhole_whole _) cV' (Memref.isWhole_whole _) xV (Memref.isWhole_whole _) oV (Memref.isWhole_whole _)
            rawV (Memref.isWhole_whole _) idxV (Memref.isWhole_whole _) rowsV (Memref.isWhole_whole _) numV (Memref.isWhole_whole _)
            asmV (Memref.isWhole_whole _) cc0_scratch5 cc0_scoped0 cc0_scoped1 cc0_scoped2)
          fun _ => iprop(Part d L q T C X (flat T C X) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownSems0_tile, ownBufs_tile]
  unfold Part
  iintro ⟨#Hlv, -, ⟨Ht, Hc, Hx, Ho⟩, ⟨Hraw, Hidx, Hrows, Hnum, Hasm, Hbufs⟩, ⟨S5, S0, S1, S2, Hsems⟩, HO⟩
  ihave Hmw := (show levAts (K (F := F)).L (K (F := F)).lev ⊢ Transfers.MayWaits (thr d L) (default : HIx 1) O from
    (K (F := F)).mayWaits_none (thr := thr d L) hO) $$ Hlv
  ihave Hb := (block_start (F := F) d L (T := T) (C := C) (X := X)) $$ Ho
  ihave Hwp := (trips (F := F) d L (q := q) (T := T) hC (X := X) (O := O) (W := W)) $$ [Hraw Hidx Hrows Hnum Hasm Ht Hc Hx Hb S5 S0 S1 S2 Hmw HO]
  · unfold TileInv Waits0 Owed
    isplitl [Hraw]; · iexact Hraw
    isplitl [Hidx]; · iexact Hidx
    isplitl [Hrows]; · iexact Hrows
    isplitl [Hnum]; · iexact Hnum
    isplitl [Hasm]; · iexact Hasm
    isplitl [Ht]; · iexact Ht
    isplitl [Hc]; · iexact Hc
    isplitl [Hx]; · iexact Hx
    isplitl [Hb]; · iexact Hb
    isplitl [S5]; · iexact S5
    isplitl [S0]; · iexact S0
    isplitl [S1]; · iexact S1
    isplitl [S2]; · iexact S2
    isplitl [Hmw]; · iexact Hmw
    iexists W
    isplitr; · ipureintro; exact fun p hp => .inl hp
    iexact HO
  iapply (wp_wand frame _ _) $$ Hwp
  iintro %u H
  unfold TileInv Waits0 Owed
  icases H with ⟨Hraw, Hidx, Hrows, Hnum, Hasm, Ht, Hc, Hx, Hb, S5, S0, S1, S2, -, HO⟩
  isplitl [Ht Hc Hx Hb]
  · isplitl [Ht]; · iexact Ht
    isplitl [Hc]; · iexact Hc
    isplitl [Hx]; · iexact Hx
    iapply (block_done (F := F) d L); iexact Hb
  isplitl [Hraw Hidx Hrows Hnum Hasm Hbufs]
  · isplitl [Hraw]; · iexact Hraw
    isplitl [Hidx]; · iexact Hidx
    isplitl [Hrows]; · iexact Hrows
    isplitl [Hnum]; · iexact Hnum
    isplitl [Hasm]; · iexact Hasm
    iexact Hbufs
  isplitl [S5 S0 S1 S2 Hsems]
  · isplitl [S5]; · iexact S5
    isplitl [S0]; · iexact S0
    isplitl [S1]; · iexact S1
    isplitl [S2]; · iexact S2
    iexact Hsems
  iexact HO

end Cert.Proof.OfKernelIdeal

end
-- ==== Proof.KernelIdeal.Launch.lean ====
/-
  The whole program: the call's operands shared out among the tiles, its results joined; @main around it; every run
  terminates, the result array at its value, the arguments as they were, every semaphore at zero.
-/
module

public import proofs.«01_k».proof.Proof.KernelIdeal.Task

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Values
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The call's operands -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v4

/-- The tables one above another; -/
def tblOf (d : Dev nD) : Tbl.Idx → Elt F .f32 := shapeCast S2600000x16 (m (a2Loc d)) shapeCasts_S26x100000x16_S2600000x16
/-- the words in a row; -/
def catOf (d : Dev nD) : Cat.Idx → BitVec 32 := shapeCast S2129920 (m (a1Loc d)) shapeCasts_S4096x20x26_S2129920
/-- the numeric features in a row; -/
def numOf (d : Dev nD) : Num.Idx → Elt F .f32 := shapeCast S1064960 (m (a0Loc d)) shapeCasts_S4096x20x13_S1064960
/-- the results, in a row; -/
def flatOf (d : Dev nD) : S35143680.Idx → Elt F .f32 := flat (tblOf m d) (catOf m d) (numOf m d)
/-- and at their shape. -/
def outOf (d : Dev nD) : S4096x20x429.Idx → Elt F .f32 := shapeCast S4096x20x429 (flatOf m d) shapeCasts_S35143680_S4096x20x429

/-- What the proof asks of the launch memory. -/
def PreOK : Prop := ∀ (d : Dev nD) (j : S4096x20x26.Idx), (m (a1Loc d) j).toNat < 100000

omit [FloatOps F] in
theorem inVocab_of {m : (ℓ : Loc nD τ sig) → Buf (Elt F) ℓ} (h : PreOK m) (d : Dev nD) : InVocab (catOf m d) := fun j => h d _

/-! ## The shares and the blocks -/

def coordsV (c : Fin (grid0.bound 0)) (s : Fin (grid0.bound 1)) : grid0.Coords :=
  fun | 0 => c | 1 => s | ⟨_ + 2, h⟩ => absurd h (Nat.not_lt.2 (Nat.le_add_left _ _))

def qCore (c : Fin 2) : PosShare TreeShare := pieceOf fullShare 2 (by decide) c
def qTile (c : Fin 2) (i : Fin 16) : PosShare TreeShare := pieceOf (qCore c) 16 (by decide) i

def tileSet (d : Dev nD) (c : Fin 2) (i : Fin 16) : Finset (Idx (oLoc d)) := blockSet d (coordsV c i)
def coreSet (d : Dev nD) (c : Fin 2) : Finset (Idx (oLoc d)) := Finset.univ.biUnion (tileSet d c)

theorem mem_tileSet {d : Dev nD} {c : Fin 2} {i : Fin 16} {x : S35143680.Idx} :
    x ∈ tileSet d c i ↔ (x 0).val / 1098240 = 2 * i.val + c.val := by
  have h : x ∈ tileSet d c i ↔ 1098240 * (2 * i.val + c.val) ≤ (x 0).val ∧ (x 0).val < 1098240 * (2 * i.val + c.val) + 1098240 :=
    Finset.mem_filter.trans (and_iff_right (Finset.mem_univ _))
  rw [h]; omega

theorem tiles_disjoint (d : Dev nD) (c : Fin 2) : ∀ i ∈ (Finset.univ : Finset (Fin 16)), ∀ j ∈ (Finset.univ : Finset (Fin 16)), i ≠ j → Disjoint (tileSet d c i) (tileSet d c j) := by
  intro i _ j _ h
  refine Finset.disjoint_left.mpr fun x hx hx' => h (Fin.ext ?_)
  have h1 := mem_tileSet.mp hx
  have h2 := mem_tileSet.mp hx'
  omega

theorem mem_coreSet {d : Dev nD} {c : Fin 2} {x : S35143680.Idx} : x ∈ coreSet d c ↔ (x 0).val / 1098240 % 2 = c.val := by
  have hx : (x 0).val < 35143680 := (x 0).isLt
  have hc := c.isLt
  constructor
  · intro h
    obtain ⟨i, -, hi⟩ := Finset.mem_biUnion.mp h
    have := mem_tileSet.mp hi
    omega
  · intro h
    exact Finset.mem_biUnion.mpr ⟨⟨(x 0).val / 1098240 / 2, by omega⟩, Finset.mem_univ _, mem_tileSet.mpr (by show _ = 2 * ((x 0).val / 1098240 / 2) + c.val; omega)⟩

theorem cores_disjoint (d : Dev nD) : ∀ c ∈ (Finset.univ : Finset (Fin 2)), ∀ c' ∈ (Finset.univ : Finset (Fin 2)), c ≠ c' → Disjoint (coreSet d c) (coreSet d c') := by
  intro c _ c' _ h
  refine Finset.disjoint_left.mpr fun x hx hx' => h (Fin.ext ?_)
  exact (mem_coreSet.mp hx).symm.trans (mem_coreSet.mp hx')

theorem cores_cover (d : Dev nD) : (Finset.univ : Finset (Fin 2)).biUnion (coreSet d) = Finset.univ :=
  Finset.eq_univ_iff_forall.mpr fun x => Finset.mem_biUnion.mpr
    ⟨⟨((x (0 : Fin 1)).val / 1098240) % 2, Nat.mod_lt _ (by decide)⟩, Finset.mem_univ _, mem_coreSet.mpr rfl⟩

/-- The call's operands at a share, the words `I` of the results at `f`. -/
def Operands (d : Dev nD) (q : PosShare TreeShare) (I : Finset (Idx (oLoc d))) (f : Buf (Elt F) (oLoc d)) : sProp 𝕄 :=
  iprop((tLoc d ↦{q} tblOf m d) ∗ (cLoc d ↦{q} catOf m d) ∗ (xLoc d ↦{q} numOf m d) ∗ (oLoc d ↦[I]{fullShare} f))

omit [FloatOps F] in
theorem sep_four {A A' B B' C C' E E' : sProp 𝕄} (hA : A = A') (hB : B = B') (hC : C = C') (hE : E = E') :
    iprop(A ∗ B ∗ C ∗ E) = iprop(A' ∗ B' ∗ C' ∗ E') := by
  rw [hA, hB, hC, hE]

omit [FloatOps F] in
/-- All of them are the two cores'; -/
theorem operands_cores (d : Dev nD) (f : Buf (Elt F) (oLoc d)) :
    Operands m d fullShare Finset.univ f = bigSep Finset.univ fun c : Fin 2 => Operands m d (qCore c) (coreSet d c) f := by
  unfold Operands
  rw [bigSep_sep', bigSep_sep', bigSep_sep', ← pointsTo_biUnion Finset.univ (ℓ := oLoc d) (coreSet d) (cores_disjoint d), cores_cover]
  refine sep_four ?_ ?_ ?_ ?_
  · exact pointsTo_piecesOf _ _ _ _
  · exact pointsTo_piecesOf _ _ _ _
  · exact pointsTo_piecesOf _ _ _ _
  · rfl

omit [FloatOps F] in
/-- a core's are its tiles'. -/
theorem operands_tiles (d : Dev nD) (c : Fin 2) (f : Buf (Elt F) (oLoc d)) :
    Operands m d (qCore c) (coreSet d c) f = bigSep Finset.univ fun i : Fin 16 => Operands m d (qTile c i) (tileSet d c i) f := by
  unfold Operands
  rw [bigSep_sep', bigSep_sep', bigSep_sep', ← pointsTo_biUnion Finset.univ (ℓ := oLoc d) (tileSet d c) (tiles_disjoint d c)]
  refine sep_four ?_ ?_ ?_ ?_
  · exact pointsTo_piecesOf _ _ _ _
  · exact pointsTo_piecesOf _ _ _ _
  · exact pointsTo_piecesOf _ _ _ _
  · rfl

/-- What the call takes, core by core and tile by tile, and what it hands back: the same, the results written. -/
def P : (K (F := F)).Pay (nD := nD) (Val := Elt F) (Name := ℕ) (U := UU) where
  st := fun q d c => match q with | 0 => Operands m d (qCore (Fin.cast nCore_zero c)) (coreSet d (Fin.cast nCore_zero c)) (m (oLoc d))
  dn := fun q d c => match q with | 0 => Operands m d (qCore (Fin.cast nCore_zero c)) (coreSet d (Fin.cast nCore_zero c)) (flatOf m d)
  go := fun q d c i => match q with
    | 0 => Operands m d (qTile (Fin.cast nCore_zero c) (Fin.cast nSub_zero i)) (tileSet d (Fin.cast nCore_zero c) (Fin.cast nSub_zero i)) (m (oLoc d))
  td := fun q d c i => match q with
    | 0 => Operands m d (qTile (Fin.cast nCore_zero c) (Fin.cast nSub_zero i)) (tileSet d (Fin.cast nCore_zero c) (Fin.cast nSub_zero i)) (flatOf m d)
  x := fun _ _ => iprop(emp)

omit [FloatOps F] in
theorem operands_storable (d : Dev nD) (q : PosShare TreeShare) (I : Finset (Idx (oLoc d))) (f : Buf (Elt F) (oLoc d)) :
    BI.Storable (upEmb : UEmb _ 𝕄) (Operands m d q I f) := by
  unfold Operands; infer_instance

instance P_storable : (P (F := F) m).IsStorable where
  st q d _ := match q with | 0 => operands_storable m d _ _ _
  dn q d _ := match q with | 0 => operands_storable m d _ _ _
  go q d _ _ := match q with | 0 => operands_storable m d _ _ _
  td q d _ _ := match q with | 0 => operands_storable m d _ _ _

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show Operands m d (qCore (Fin.cast nCore_zero c)) (coreSet d (Fin.cast nCore_zero c)) (m (oLoc d)) ⊢ |={Set.univ}=> iprop(
      (bigSep Finset.univ fun i : Fin ((K (F := F)).nSub 0) =>
        Operands m d (qTile (Fin.cast nCore_zero c) (Fin.cast nSub_zero i)) (tileSet d (Fin.cast nCore_zero c) (Fin.cast nSub_zero i)) (m (oLoc d)))
      ∗ ((bigSep Finset.univ fun i : Fin ((K (F := F)).nSub 0) =>
          Operands m d (qTile (Fin.cast nCore_zero c) (Fin.cast nSub_zero i)) (tileSet d (Fin.cast nCore_zero c) (Fin.cast nSub_zero i)) (flatOf m d))
          -∗ Operands m d (qCore (Fin.cast nCore_zero c)) (coreSet d (Fin.cast nCore_zero c)) (flatOf m d)))
  rw [bigSep_tiles (F := F) (fun i => Operands m d (qTile (Fin.cast nCore_zero c) i) (tileSet d (Fin.cast nCore_zero c) i) (m (oLoc d))),
    bigSep_tiles (F := F) (fun i => Operands m d (qTile (Fin.cast nCore_zero c) i) (tileSet d (Fin.cast nCore_zero c) i) (flatOf m d)),
    ← operands_tiles, ← operands_tiles]
  iintro H; imodintro
  isplitl [H]; · iexact H
  iintro H; iexact H

/-! ## A tile's obligation -/

theorem defs₀_vector (c : Fin τ.nSC) (s : Fin τ.nSub) :
    defs₀ (F := F) (.scVector c s) 0 ()
      = SparseCore.onTile hcore0 hsub0 (fun c s => cc0__sc_body (coordsV c s) tV (Memref.isWhole_whole _) cV' (Memref.isWhole_whole _) xV (Memref.isWhole_whole _) oV (Memref.isWhole_whole _)
            rawV (Memref.isWhole_whole _) idxV (Memref.isWhole_whole _) rowsV (Memref.isWhole_whole _) numV (Memref.isWhole_whole _)
            asmV (Memref.isWhole_whole _) cc0_scratch5 cc0_scoped0 cc0_scoped1 cc0_scoped2) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (F := F) d (coordsV ⟨_, hci.1⟩ ⟨_, hci.2⟩) (q := qTile (Fin.cast nCore_zero c) (Fin.cast nSub_zero i)) (T := tblOf m d) (C := catOf m d)
    (inVocab_of hpre d) (X := numOf m d) (f := m (oLoc d)) O W hO).trans (wp_mono frame _ _ fun _ => obl_post)

/-! ## The launch element of the certificate's ghost state -/

def u₀ : UU := (initOf (K (F := F)).hsCells (K (F := F)).hsToks, 1)

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  have e : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [e]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), e]
  iempintro

/-! ## @main on the TensorCore -/

abbrev dr (b : Ref sig .tc) : DevRef τ sig := Proc.devRef .tc b

/-- The TensorCore's arrays. -/
abbrev S8 : Finset (DevRef τ sig) := {dr main_arg0, dr main_arg1, dr main_arg2, dr main_v0, dr main_v1, dr main_v2, dr main_v3, dr main_v4}

omit [FloatOps F] in
theorem held_S8 (d : Dev nD) (W : Valuation τ sig (Elt F)) :
    (held (T d) S8 W : sProp 𝕄) = iprop((a0Loc d ↦{fullShare} W (dr main_arg0)) ∗ (a1Loc d ↦{fullShare} W (dr main_arg1)) ∗ (a2Loc d ↦{fullShare} W (dr main_arg2))
      ∗ (tLoc d ↦{fullShare} W (dr main_v0)) ∗ (cLoc d ↦{fullShare} W (dr main_v1)) ∗ (xLoc d ↦{fullShare} W (dr main_v2)) ∗ (oLoc d ↦{fullShare} W (dr main_v3))
      ∗ (rLoc d ↦{fullShare} W (dr main_v4))) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch contents. -/
def V0 (d : Dev nD) : Valuation τ sig (Elt F) := fun b => m (d, b)

theorem unscoped_held (d : Dev nD) : (unscopedBufs d (fun b => m ((SparseCore.T d).loc b)) : sProp 𝕄) = held (T d) S8 (V0 m d) := by
  rw [held_S8]
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

abbrev op2 : HloOp τ sig (Elt F) := StableHlo.reshape main_arg2 main_v0 (rfl : (.f32 : EltTy) = .f32) shapeCasts_S26x100000x16_S2600000x16
abbrev op1 : HloOp τ sig (Elt F) := StableHlo.reshape main_arg1 main_v1 (rfl : (.i32 : EltTy) = .i32) shapeCasts_S4096x20x26_S2129920
abbrev op0 : HloOp τ sig (Elt F) := StableHlo.reshape main_arg0 main_v2 (rfl : (.f32 : EltTy) = .f32) shapeCasts_S4096x20x13_S1064960
abbrev opR : HloOp τ sig (Elt F) := StableHlo.reshape main_v3 main_v4 (rfl : (.f32 : EltTy) = .f32) shapeCasts_S35143680_S4096x20x429

/-- Each leaves every array but its result's as it was. -/
theorem op2_ne (W : Valuation τ sig (Elt F)) {b : Ref sig .tc} (h : b ≠ main_v0) : op2.result W (dr b) = W (dr b) := by
  rw [StableHlo.reshape_result_ne (h := h)]
theorem op1_ne (W : Valuation τ sig (Elt F)) {b : Ref sig .tc} (h : b ≠ main_v1) : op1.result W (dr b) = W (dr b) := by
  rw [StableHlo.reshape_result_ne (h := h)]
theorem op0_ne (W : Valuation τ sig (Elt F)) {b : Ref sig .tc} (h : b ≠ main_v2) : op0.result W (dr b) = W (dr b) := by
  rw [StableHlo.reshape_result_ne (h := h)]
theorem opR_ne (W : Valuation τ sig (Elt F)) {b : Ref sig .tc} (h : b ≠ main_v4) : opR.result W (dr b) = W (dr b) := by
  rw [StableHlo.reshape_result_ne (h := h)]

/-- The contents at the call; -/
abbrev V1 (d : Dev nD) : Valuation τ sig (Elt F) := op0.result (op1.result (op2.result (V0 m d)))
/-- and after it. -/
def V2 (d : Dev nD) : Valuation τ sig (Elt F) := Function.update (V1 m d) (dr main_v3) (flatOf m d)

/-- An array no reshape before the call writes is as launched; -/
theorem V1_ne (d : Dev nD) {b : Ref sig .tc} (h0 : b ≠ main_v0) (h1 : b ≠ main_v1) (h2 : b ≠ main_v2) : V1 m d (dr b) = m (d, dr b) :=
  (op0_ne _ h2).trans ((op1_ne _ h1).trans (op2_ne _ h0))
theorem V1_tbl (d : Dev nD) : V1 m d (dr main_v0) = tblOf m d :=
  (op0_ne _ (by decide)).trans ((op1_ne _ (by decide)).trans (StableHlo.reshape_result _ _ _ _ _ _ _))
theorem V1_cat (d : Dev nD) : V1 m d (dr main_v1) = catOf m d := by
  refine (op0_ne _ (by decide)).trans ((StableHlo.reshape_result _ _ _ _ _ _ _).trans ?_)
  rw [op2_ne _ (by decide)]; rfl
theorem V1_num (d : Dev nD) : V1 m d (dr main_v2) = numOf m d := by
  refine (StableHlo.reshape_result _ _ _ _ _ _ _).trans ?_
  rw [op1_ne _ (by decide), op2_ne _ (by decide)]; rfl

theorem V2_ne (d : Dev nD) {b : Ref sig .tc} (h : dr b ≠ dr main_v3) : V2 m d (dr b) = V1 m d (dr b) := Function.update_of_ne h _ _
theorem V2_out (d : Dev nD) : V2 m d (dr main_v3) = flatOf m d := Function.update_self _ _ _

/-- an argument is so to the end. -/
theorem VR_ne (d : Dev nD) {b : Ref sig .tc} (h : b ≠ main_v4) (h3 : dr b ≠ dr main_v3) (h0 : b ≠ main_v0) (h1 : b ≠ main_v1) (h2 : b ≠ main_v2) :
    opR.result (V2 m d) (dr b) = m (d, dr b) :=
  (opR_ne _ h).trans ((V2_ne m d h3).trans (V1_ne m d h0 h1 h2))
theorem VR_res (d : Dev nD) : opR.result (V2 m d) (dr main_v4) = outOf m d := by
  refine (StableHlo.reshape_result _ _ _ _ _ _ _).trans ?_
  rw [V2_out]; rfl

/-- What the call takes for the two cores; -/
theorem st0_eq (d : Dev nD) : (bigSep Finset.univ fun c : Fin ((K (F := F)).nCore 0) => (P m).st 0 d c) = Operands m d fullShare Finset.univ (m (oLoc d)) :=
  (bigSep_cores (F := F) fun c => Operands m d (qCore c) (coreSet d c) (m (oLoc d))).trans (operands_cores m d _).symm
/-- what it hands back. -/
theorem dn0_eq (d : Dev nD) : (bigSep Finset.univ fun c : Fin ((K (F := F)).nCore 0) => (P m).dn 0 d c) = Operands m d fullShare Finset.univ (flatOf m d) :=
  (bigSep_cores (F := F) fun c => Operands m d (qCore c) (coreSet d c) (flatOf m d)).trans (operands_cores m d _).symm

/-- What @main leaves the claim: the arguments at their launch contents, the result at its value. -/
def FIN (d : Dev nD) : sProp 𝕄 :=
  iprop((a0Loc d ↦{fullShare} m (a0Loc d)) ∗ (a1Loc d ↦{fullShare} m (a1Loc d)) ∗ (a2Loc d ↦{fullShare} m (a2Loc d)) ∗ (rLoc d ↦{fullShare} outOf m d))

/-- @main on device `d`'s TensorCore: three reshapes, the call, a reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op2) (S := S8) (show ({dr main_arg2, dr main_v0} : Finset (DevRef τ sig)) ⊆ S8 by decide) (V := V0 m d)) $$ [Hb Hheld]
  · isplitl [Hb] <;> iassumption
  iintro ⟨Hb, Hheld⟩
  rw [wp_ret]; imodintro
  iapply (wp_hlo_within 𝒱 (SparseCore.T d) none Set.univ (op := op1) (S := S8) (show ({dr main_arg1, dr main_v1} : Finset (DevRef τ sig)) ⊆ S8 by decide) (V := op2.result (V0 m d))) $$ [Hb Hheld]
  · isplitl [Hb] <;> iassumption
  iintro ⟨Hb, Hheld⟩
  rw [wp_ret]; imodintro
  iapply (wp_hlo_within 𝒱 (SparseCore.T d) none Set.univ (op := op0) (S := S8) (show ({dr main_arg0, dr main_v2} : Finset (DevRef τ sig)) ⊆ S8 by decide) (V := op1.result (op2.result (V0 m d)))) $$ [Hb Hheld]
  · isplitl [Hb] <;> iassumption
  iintro ⟨Hb, Hheld⟩
  rw [wp_ret]; imodintro
  ihave Hh := (Entails.of_eq ((held_S8 (F := F) d (V1 m d)).trans (by rw [V1_tbl, V1_cat, V1_num, V1_ne m d (b := main_v3) (by decide) (by decide) (by decide)]))) $$ Hheld
  icases Hh with ⟨H0, H1, H2, Ht, Hc, Hx, Ho, Hr⟩
  iapply ((K (F := F)).wp_run (D (F := F)) 𝒱 (EH := EH) (P := P m) κ d 0) $$ [Hst H0 H1 H2 Ht Hc Hx Ho Hr Hb Hts]
  isplitr; · iexact Hctx
  isplitl [Hst]; · iexact Hst
  isplitl [Ht Hc Hx Ho]
  · rw [st0_eq]; unfold Operands
    isplitl [Ht]; · iexact Ht
    isplitl [Hc]; · iexact Hc
    isplitl [Hx]; · iexact Hx
    iexact Ho
  iintro ⟨Hst, Hdn⟩
  ihave Hdn' := (Entails.of_eq (dn0_eq m d)) $$ Hdn
  unfold Operands
  icases Hdn' with ⟨Ht, Hc, Hx, Ho⟩
  iapply (wp_hlo_within 𝒱 (SparseCore.T d) none Set.univ (op := opR) (S := S8) (show ({dr main_v3, dr main_v4} : Finset (DevRef τ sig)) ⊆ S8 by decide) (V := V2 m d)) $$ [Hb H0 H1 H2 Ht Hc Hx Ho Hr]
  · isplitl [Hb]; · iexact Hb
    rw [held_S8, V2_out, V2_ne m d (b := main_arg0) (by decide), V2_ne m d (b := main_arg1) (by decide), V2_ne m d (b := main_arg2) (by decide), V2_ne m d (b := main_v0) (by decide), V2_ne m d (b := main_v1) (by decide), V2_ne m d (b := main_v2) (by decide), V2_ne m d (b := main_v4) (by decide),
      V1_tbl, V1_cat, V1_num]
    isplitl [H0]; · iexact H0
    isplitl [H1]; · iexact H1
    isplitl [H2]; · iexact H2
    isplitl [Ht]; · iexact Ht
    isplitl [Hc]; · iexact Hc
    isplitl [Hx]; · iexact Hx
    isplitl [Ho]; · iexact Ho
    iexact Hr
  iintro ⟨Hb, Hheld⟩
  ihave Hh := (Entails.of_eq ((held_S8 (F := F) d (opR.result (V2 m d))).trans (by
    rw [VR_ne m d (b := main_arg0) (by decide) (by decide) (by decide) (by decide) (by decide), VR_ne m d (b := main_arg1) (by decide) (by decide) (by decide) (by decide) (by decide),
      VR_ne m d (b := main_arg2) (by decide) (by decide) (by decide) (by decide) (by decide), VR_res]))) $$ Hheld
  icases Hh with ⟨H0, H1, H2, -, -, -, -, Hr⟩
  rw [wp_ret]; imodintro; imodintro
  isplitl [Hst]; · iexact Hst
  isplitr [Hb Hts]
  · unfold FIN
    isplitl [H0]; · iexact H0
    isplitl [H1]; · iexact H1
    isplitl [H2]; · iexact H2
    iexact Hr
  isplitl [Hb] <;> iassumption

/-- What a final state holds. -/
def fq (d : Dev nD) (s' : Phys nD τ sig (Elt F)) : Prop :=
  s'.mem.mem (rLoc d) = outOf m d ∧ s'.mem.mem (a0Loc d) = m (a0Loc d) ∧ s'.mem.mem (a1Loc d) = m (a1Loc d) ∧ s'.mem.mem (a2Loc d) = m (a2Loc d)

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := outOf m d)) $$ [HSI Hr]
  · isplitl [HSI] <;> iassumption
  icases H with %h3
  ipureintro
  exact ⟨funext fun i => h3 i (Finset.mem_univ i), funext fun i => h0 i (Finset.mem_univ i), funext fun i => h1 i (Finset.mem_univ i), funext fun i => h2 i (Finset.mem_univ i)⟩

/-! ## The program's run -/

/-- How a run ends. -/
def QC : PUnit × MemSt nD τ sig (Elt F) → Prop := fun r =>
  (∀ c : Dev nD, r.2.mem (rLoc c) = outOf m c ∧ r.2.mem (a0Loc c) = m (a0Loc c) ∧ r.2.mem (a1Loc c) = m (a1Loc c) ∧ r.2.mem (a2Loc c) = m (a2Loc c))
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.OfKernelIdeal

end
-- ==== Proof.Reference.lean ====
/-
  What the reference computes, entry by entry: for words that name entries of their tables, entry `(b, l, j)` of its result
  is, for `j < 416`, number `j % 16` of the row of table `j / 16` that word `(b, l, j / 16)` names, and otherwise numeric
  feature `j - 416`.
-/
module

public import proofs.«01_k».proof.Proof.Gen.ReferenceIdeal
public import Idealize.ShloMosaic.Lib.Pipeline.Value
public import Idealize.ShloMosaic.Lib.ReduceAll
public import Idealize.ShloMosaic.Lib.WordCmp
public import Idealize.ShloMosaic.Lib.ValueIdxCore

@[expose] public section

noncomputable section

namespace Cert.Proof.OfReference

open Cert.ReferenceIdeal Cert.ReferenceIdeal.Gen
open Idealize.ShloMosaic Idealize.SL.Sem
open Idealize.ShloMosaic.ValueIdx (ix1 ix2 ix3 eq_ix3)

variable {F : FTy → Type} [FloatOps F]

/-! ## One lookup -/

/-- The words of field `k`. -/
def words (k : Fin 26) (h : S4096x20x26.Slices ![0, 0, k.val] S4096x20x1) (C : S4096x20x26.Idx → BitVec 32) : S4096x20.Idx → BitVec 32 :=
  shapeCast _ (extractStridedSlice S4096x20x1 ![0, 0, k.val] C h) shapeCasts_S4096x20x1_S4096x20

/-- A word below zero counts from the table's end. -/
def wrapped (w : S4096x20.Idx → BitVec 32) : S4096x20x1.Idx → BitVec 32 :=
  broadcastInDim S4096x20x1 ![0, 1] bcast_S4096x20_S4096x20x1_0_1
    (select (cmpi .slt w (broadcastInDim S4096x20 ![] bcast_S_S4096x20 (constantI S_ 32 0#32)))
      (addi w (broadcastInDim S4096x20 ![] bcast_S_S4096x20 (constantI S_ 32 100000#32))) w)

/-- Which words name a row. -/
def inside (i : S4096x20x1.Idx → BitVec 32) : S4096x20x1.Idx → BitVec 1 :=
  andi (cmpi .sge i (broadcastInDim S4096x20x1 ![] bcast_S_S4096x20x1 (constantI S_ 32 0#32)))
    (cmpi .sle i (broadcastInDim S4096x20x1 ![0, 1, 2] bcast_S1x1x1_S4096x20x1_0_1_2
      (broadcastInDim S1x1x1 ![2] bcast_S1_S1x1x1_2 (constantI S1 32 99999#32))))

/-- The rows of one table that the words name, a fill value where a word names none. -/
def taken (W : S100000x16.Idx → F .f32) (i : S4096x20x1.Idx → BitVec 32) : S4096x20x16.Idx → F .f32 :=
  select (broadcastInDim S4096x20x16 ![0, 1] bcast_S4096x20_S4096x20x16_0_1
      (Host.reduce IntOp.andi (inside i) (constantI S_ 1 1#1) reducesTo_S4096x20x1_S4096x20_d2 h_S_))
    (Host.gather gather_S100000x16_S4096x20x1_S4096x20x16_2_0_n_n_0_2_116 W i)
    (broadcastInDim S4096x20x16 ![] bcast_S_S4096x20x16 (constant S_ .f32 0x7FC00000#32))

/-- Table `k`. -/
def table {α : Type} (k : Fin 26) (h : S26x100000x16.Slices ![k.val, 0, 0] S1x100000x16) (T : S26x100000x16.Idx → α) : S100000x16.Idx → α :=
  shapeCast _ (extractStridedSlice S1x100000x16 ![k.val, 0, 0] T h) shapeCasts_S1x100000x16_S100000x16

theorem wordSlices : ∀ k : Fin 26, S4096x20x26.Slices ![0, 0, k.val] S4096x20x1 := by decide
theorem tableSlices : ∀ k : Fin 26, S26x100000x16.Slices ![k.val, 0, 0] S1x100000x16 := by decide

/-- The lookup of field `k`. -/
def field (C : S4096x20x26.Idx → BitVec 32) (T : S26x100000x16.Idx → F .f32) (k : Fin 26) : S4096x20x16.Idx → F .f32 :=
  taken (table k (tableSlices k) T) (wrapped (words k (wordSlices k) C))

theorem words_apply (k : Fin 26) (h) (C : S4096x20x26.Idx → BitVec 32) (b : Fin 4096) (l : Fin 20) :
    words k h C (ix2 b l) = C (ix3 b l k) := by
  unfold words shapeCast
  rw [Shape.reshapeEquiv_eq_of_rowMajor (y := (ix3 b l (0 : Fin 1) : S4096x20x1.Idx)) _ (by
    rw [Shape.rowMajor_val_three, Shape.rowMajor_val_two]; simp)]
  unfold extractStridedSlice
  congr 1
  funext a
  match a with
  | 0 => exact Fin.ext (Nat.zero_add _)
  | 1 => exact Fin.ext (Nat.zero_add _)
  | 2 => exact Fin.ext (Nat.add_zero _)

theorem table_apply {α : Type} (k : Fin 26) (h) (T : S26x100000x16.Idx → α) (r : Fin 100000) (e : Fin 16) :
    table k h T (ix2 r e) = T (ix3 k r e) := by
  unfold table shapeCast
  rw [Shape.reshapeEquiv_eq_of_rowMajor (y := (ix3 (0 : Fin 1) r e : S1x100000x16.Idx)) _ (by
    rw [Shape.rowMajor_val_three, Shape.rowMajor_val_two]; simp)]
  unfold extractStridedSlice
  congr 1
  funext a
  match a with
  | 0 => exact Fin.ext (Nat.add_zero _)
  | 1 => exact Fin.ext (Nat.zero_add _)
  | 2 => exact Fin.ext (Nat.zero_add _)

theorem toInt_small {w : BitVec 32} (h : w.toNat < 100000) : w.toInt = w.toNat := by
  rw [BitVec.toInt_eq_toNat_cond, if_pos (by omega)]

theorem wrapped_apply {w : S4096x20.Idx → BitVec 32} (hw : ∀ x, (w x).toNat < 100000) (b : Fin 4096) (l : Fin 20) (z : Fin 1) :
    wrapped w (ix3 b l z) = w (ix2 b l) := by
  unfold wrapped broadcastInDim
  have e : (fun a : Fin S4096x20.rank => if h1 : S4096x20.size a = 1 then (⟨0, by omega⟩ : Fin (S4096x20.size a))
      else ⟨((ix3 b l z : S4096x20x1.Idx) ((![0, 1] : Fin 2 → Fin 3) a)).val, by
        have := ((ix3 b l z : S4096x20x1.Idx) ((![0, 1] : Fin 2 → Fin 3) a)).isLt
        match a with | 0 => exact b.isLt | 1 => exact l.isLt⟩) = (ix2 b l : S4096x20.Idx) := by
    funext a
    match a with | 0 => rfl | 1 => rfl
  refine (congrArg _ e).trans ?_
  have hn : IntOp.cmpi .slt (w (ix2 b l)) 0#32 = 0#1 := by
    rw [WordCmp.cmpi_slt_eq, toInt_small (hw _), show decide (((w (ix2 b l)).toNat : ℤ) < (0#32 : BitVec 32).toInt) = false from by simp]
    rfl
  show Scalar.select (IntOp.cmpi .slt (w (ix2 b l)) 0#32) _ _ = _
  rw [hn]
  rfl

theorem inside_apply {i : S4096x20x1.Idx → BitVec 32} (hi : ∀ x, (i x).toNat < 100000) (x : S4096x20x1.Idx) : inside i x = 1#1 := by
  have h := hi x
  show IntOp.andi (IntOp.cmpi .sge (i x) 0#32) (IntOp.cmpi .sle (i x) 99999#32) = 1#1
  rw [WordCmp.cmpi_sge_eq, WordCmp.cmpi_sle_eq, toInt_small h]
  have h1 : decide ((0#32 : BitVec 32).toInt ≤ ((i x).toNat : ℤ)) = true := by simp
  have h2 : decide (((i x).toNat : ℤ) ≤ (99999#32 : BitVec 32).toInt) = true := by
    have : (99999#32 : BitVec 32).toInt = 99999 := by decide
    rw [this]; simp; omega
  rw [h1, h2]
  rfl

theorem taken_apply (W : S100000x16.Idx → F .f32) {i : S4096x20x1.Idx → BitVec 32} (hi : ∀ x, (i x).toNat < 100000)
    (b : Fin 4096) (l : Fin 20) (e : Fin 16) :
    taken W i (ix3 b l e) = W (ix2 ⟨(i (ix3 b l 0)).toNat, hi _⟩ e) := by
  unfold taken
  show Scalar.select (Host.reduce IntOp.andi (inside i) (constantI S_ 1 1#1) reducesTo_S4096x20x1_S4096x20_d2 h_S_ _) _ _ = _
  rw [Host.reduce_andi_one _ _ _ _ _ rfl (inside_apply hi)]
  show Host.gather _ _ _ _ = _
  unfold Host.gather
  congr 1
  funext a
  refine Fin.ext ?_
  let d := gather_S100000x16_S4096x20x1_S4096x20x16_2_0_n_n_0_2_116
  show d.start (ix3 b l e) i a + d.batchCoord (ix3 b l e) a + d.offCoord (ix3 b l e) a = _
  match a with
  | 0 =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix3 b l e) ⟨List.idxOf (0 : Fin 2) d.startIndexMap,
        List.idxOf_lt_length_iff.2 (List.mem_singleton.mpr rfl)⟩ = (ix3 b l 0 : S4096x20x1.Idx) := by
      funext c
      refine Fin.ext ?_
      match c with
      | 0 => rfl
      | 1 => rfl
      | 2 => rfl
    rw [hsi, toInt_small (hi _)]
    have := hi (ix3 b l 0)
    show min (i (ix3 b l 0)).toNat (100000 - 1) = (i (ix3 b l 0)).toNat
    omega
  | 1 =>
    have h1 : d.start (ix3 b l e) i 1 = 0 := by
      unfold GatherDims.start
      rw [dif_neg (by decide)]
    have h2 : d.batchCoord (ix3 b l e) 1 = 0 := GatherDims.batchCoord_eq_zero _ _ _ List.not_mem_nil
    rw [h1, h2]
    simp only [Nat.zero_add]
    rfl

/-- What the lookup of field `k` holds. -/
theorem field_apply {C : S4096x20x26.Idx → BitVec 32} (hC : ∀ x, (C x).toNat < 100000) (T : S26x100000x16.Idx → F .f32) (k : Fin 26)
    (b : Fin 4096) (l : Fin 20) (e : Fin 16) :
    field C T k (ix3 b l e) = T (ix3 k ⟨(C (ix3 b l k)).toNat, hC _⟩ e) := by
  have hw : ∀ x, (words k (wordSlices k) C x).toNat < 100000 := fun x => hC _
  have hi : ∀ x, (wrapped (words k (wordSlices k) C) x).toNat < 100000 := fun x => by
    obtain ⟨b, l, z, rfl⟩ : ∃ (b : Fin 4096) (l : Fin 20) (z : Fin 1), x = ix3 b l z := ⟨x 0, x 1, x 2, eq_ix3 x⟩
    rw [wrapped_apply hw]; exact hw _
  unfold field
  rw [taken_apply _ hi, table_apply]
  congr 2
  refine Fin.ext ?_
  show (wrapped _ _).toNat = _
  rw [wrapped_apply hw, words_apply]

/-! ## The lookups side by side -/

theorem sixteen : Shape.Concatenates (List.replicate 16 S4096x20x16) S4096x20x256 2 := by decide
theorem ten : Shape.Concatenates (List.replicate 10 S4096x20x16) S4096x20x160 2 := by decide

/-- Sixteen fields' rows side by side. -/
def left (u : Fin 16 → S4096x20x16.Idx → F .f32) : S4096x20x256.Idx → F .f32 :=
  concatenate S4096x20x256 2 (List.ofFn fun n : Fin 16 => (⟨S4096x20x16, u n⟩ : (s : Shape) × (s.Idx → F .f32))) sixteen

/-- Ten fields' rows side by side. -/
def right (u : Fin 10 → S4096x20x16.Idx → F .f32) : S4096x20x160.Idx → F .f32 :=
  concatenate S4096x20x160 2 (List.ofFn fun n : Fin 10 => (⟨S4096x20x16, u n⟩ : (s : Shape) × (s.Idx → F .f32))) ten

/-- The two groups side by side. -/
def both (a : S4096x20x256.Idx → F .f32) (b : S4096x20x160.Idx → F .f32) : S4096x20x416.Idx → F .f32 :=
  concatenate S4096x20x416 2 [⟨S4096x20x256, a⟩, ⟨S4096x20x160, b⟩] concatenates_S4096x20x256_S4096x20x160_S4096x20x416_d2

/-- The numeric features beside the rows. -/
def beside (a : S4096x20x416.Idx → F .f32) (x : S4096x20x13.Idx → F .f32) : S4096x20x429.Idx → F .f32 :=
  concatenate S4096x20x429 2 [⟨S4096x20x416, a⟩, ⟨S4096x20x13, x⟩] concatenates_S4096x20x416_S4096x20x13_S4096x20x429_d2

/-- Field `n`, one of the first sixteen. -/
def early (n : Fin 16) : Fin 26 := ⟨n.val, by omega⟩
/-- Field `16 + n`, one of the last ten. -/
def late (n : Fin 10) : Fin 26 := ⟨16 + n.val, by omega⟩

/-- The result, of the three arguments. -/
def result (X : S4096x20x13.Idx → F .f32) (C : S4096x20x26.Idx → BitVec 32) (T : S26x100000x16.Idx → F .f32) : S4096x20x429.Idx → F .f32 :=
  beside (both (left fun n => field C T (early n)) (right fun n => field C T (late n))) X

theorem left_apply (u : Fin 16 → S4096x20x16.Idx → F .f32) (b : Fin 4096) (l : Fin 20) (j : Fin 256) :
    left u (ix3 b l j) = u ⟨j.val / 16, by omega⟩ (ix3 b l ⟨j.val % 16, by omega⟩) :=
  concatenate_ofFn_apply (t := S4096x20x256) (s₁ := S4096x20x16) 2 u _ rfl 16 rfl _ ⟨j.val / 16, by omega⟩ rfl _ rfl fun a ha => by
    match a with
    | 0 => rfl
    | 1 => rfl
    | 2 => exact absurd rfl ha

theorem right_apply (u : Fin 10 → S4096x20x16.Idx → F .f32) (b : Fin 4096) (l : Fin 20) (j : Fin 160) :
    right u (ix3 b l j) = u ⟨j.val / 16, by omega⟩ (ix3 b l ⟨j.val % 16, by omega⟩) :=
  concatenate_ofFn_apply (t := S4096x20x160) (s₁ := S4096x20x16) 2 u _ rfl 16 rfl _ ⟨j.val / 16, by omega⟩ rfl _ rfl fun a ha => by
    match a with
    | 0 => rfl
    | 1 => rfl
    | 2 => exact absurd rfl ha

/-- A group's looked-up numbers, place by place. -/
theorem rows_apply (v : Fin 26 → S4096x20x16.Idx → F .f32) (b : Fin 4096) (l : Fin 20) (j : Fin 416) :
    both (left fun n => v (early n)) (right fun n => v (late n)) (ix3 b l j)
      = v ⟨j.val / 16, by omega⟩ (ix3 b l ⟨j.val % 16, by omega⟩) := by
  unfold both
  by_cases hj : j.val < 256
  · rw [concatenate_pair_apply_left (t := S4096x20x416) (s₁ := S4096x20x256) (s₂ := S4096x20x160) 2 _ _ _ _ rfl
      (ix3 b l (⟨j.val, hj⟩ : Fin 256)) (fun a => by match a with | 0 => rfl | 1 => rfl | 2 => rfl), left_apply]
    rfl
  · have hj' : j.val - 256 < 160 := by omega
    rw [concatenate_pair_apply_right (t := S4096x20x416) (s₁ := S4096x20x256) (s₂ := S4096x20x160) 2 _ _ _ _ rfl rfl
      (ix3 b l (⟨j.val - 256, hj'⟩ : Fin 160)) (fun a ha => by
        match a with
        | 0 => rfl
        | 1 => rfl
        | 2 => exact absurd rfl ha) (by show j.val - 256 + 256 = j.val; omega), right_apply]
    have h1 : late ⟨(j.val - 256) / 16, by omega⟩ = ⟨j.val / 16, by omega⟩ := Fin.ext (by show 16 + (j.val - 256) / 16 = j.val / 16; omega)
    have h2 : (j.val - 256) % 16 = j.val % 16 := by omega
    show v (late ⟨(j.val - 256) / 16, _⟩) (ix3 b l ⟨(j.val - 256) % 16, _⟩) = _
    rw [h1]
    congr 2
    exact Fin.ext h2

/-- Place `j` of group `(b, l)` of the result, among the looked-up numbers. -/
theorem result_row (X : S4096x20x13.Idx → F .f32) {C : S4096x20x26.Idx → BitVec 32} (hC : ∀ x, (C x).toNat < 100000)
    (T : S26x100000x16.Idx → F .f32) (b : Fin 4096) (l : Fin 20) (j : Fin 429) (hj : j.val < 416) :
    result X C T (ix3 b l j)
      = T (ix3 (⟨j.val / 16, by omega⟩ : Fin 26) (⟨(C (ix3 b l (⟨j.val / 16, by omega⟩ : Fin 26))).toNat, hC _⟩ : Fin 100000)
          (⟨j.val % 16, by omega⟩ : Fin 16)) := by
  unfold result beside
  rw [concatenate_pair_apply_left (t := S4096x20x429) (s₁ := S4096x20x416) (s₂ := S4096x20x13) 2 _ _ _ _ rfl
    (ix3 b l (⟨j.val, hj⟩ : Fin 416)) (fun a => by match a with | 0 => rfl | 1 => rfl | 2 => rfl),
    rows_apply (fun k => field C T k), field_apply hC]

/-- Place `j` of group `(b, l)` of the result, among the numeric features. -/
theorem result_num (X : S4096x20x13.Idx → F .f32) (C : S4096x20x26.Idx → BitVec 32)
    (T : S26x100000x16.Idx → F .f32) (b : Fin 4096) (l : Fin 20) (j : Fin 429) (hj : ¬ j.val < 416) :
    result X C T (ix3 b l j) = X (ix3 b l (⟨j.val - 416, by omega⟩ : Fin 13)) := by
  unfold result beside
  exact concatenate_pair_apply_right (t := S4096x20x429) (s₁ := S4096x20x416) (s₂ := S4096x20x13) 2 _ _ _ _ rfl rfl
    (ix3 b l (⟨j.val - 416, by omega⟩ : Fin 13)) (fun a ha => by
      match a with
      | 0 => rfl
      | 1 => rfl
      | 2 => exact absurd rfl ha) (by show j.val - 416 + 416 = j.val; omega)

end Cert.Proof.OfReference

end
-- ==== Proof.ReferenceRun.lean ====
/-
  The run of the reference. Its program is one straight line of operations: the twenty-six lookups, each the same
  twenty-seven operations at buffers of its own, then the concatenations. The lookups are treated once, over the number of
  the field.
-/
module

public import proofs.«01_k».proof.Proof.Reference
public import Idealize.ShloMosaic.Lib.StableHlo.RunHlo

@[expose] public section

noncomputable section

namespace Cert.Proof.OfReference

open Cert.ReferenceIdeal Cert.ReferenceIdeal.Gen
open Idealize.ShloMosaic Idealize.SL.Sem
open Idealize.ShloMosaic.StableHlo

variable {F : FTy → Type} [FloatOps F]

/-- The reference's programs. -/
abbrev Line (F : FTy → Type) [FloatOps F] := Prog (TpuEff nD τ sig (Elt F) (Pipeline.Sig Λ₀ (Fin 0) fun p => (pcfgs (F := F) p).Adm) .tc) PUnit

/-! ## The buffers of a field -/

/-- Buffer number `i` of field `k`. -/
def buf (k : Fin 26) (i : Fin 27) : Ref sig .tc :=
  ⟨.hbm, ⟨3 + 27 * k.val + i.val, by have := k.isLt; have := i.isLt; show _ < 709; omega⟩, rfl⟩

/-- The type of a field's buffer number `i`. -/
def kind (i : Fin 27) : BufTy :=
  (![⟨S4096x20x1, .i32⟩, ⟨S4096x20, .i32⟩, ⟨S1x100000x16, .f32⟩, ⟨S100000x16, .f32⟩, ⟨S_, .i32⟩, ⟨S4096x20, .i32⟩, ⟨S4096x20, .i1⟩,
    ⟨S_, .i32⟩, ⟨S4096x20, .i32⟩, ⟨S4096x20, .i32⟩, ⟨S4096x20, .i32⟩, ⟨S4096x20x1, .i32⟩, ⟨S1, .i32⟩, ⟨S_, .i32⟩, ⟨S4096x20x1, .i32⟩,
    ⟨S4096x20x1, .i1⟩, ⟨S1x1x1, .i32⟩, ⟨S4096x20x1, .i32⟩, ⟨S4096x20x1, .i1⟩, ⟨S4096x20x1, .i1⟩, ⟨S_, .i1⟩, ⟨S4096x20, .i1⟩,
    ⟨S4096x20x16, .f32⟩, ⟨S4096x20x16, .i1⟩, ⟨S_, .f32⟩, ⟨S4096x20x16, .f32⟩, ⟨S4096x20x16, .f32⟩] : Fin 27 → BufTy) i

theorem kind_is {i : Fin 27} {T : BufTy} (h : kind i = T) : kind i = T := h

theorem buf_ty : ∀ (k : Fin 26) (i : Fin 27), (buf k i).ty = kind i := by decide +kernel

/-- Buffer number `i` of field `k`, as a reference to a value of type `T`. -/
def cell (k : Fin 26) (i : Fin 27) (T : BufTy) (h : kind i = T) : TRef sig T :=
  ⟨buf k i, (buf_ty k i).trans h, (fun h => nomatch h), rfl⟩

/-- Where a reference's buffer is in its memory. -/
def place (r : Ref sig .tc) : Nat := r.idx.val

theorem buf_ne {k : Fin 26} {i : Fin 27} {r : Ref sig .tc} (h : place r ≠ 3 + 27 * k.val + i.val) : r ≠ buf k i :=
  fun e => h (by rw [e]; rfl)

/-! ## Reading and writing -/

section Steps

variable {Tx Ta Tb Tc Ty T : BufTy}

/-- An operation of no operands. -/
def op0 (y : TRef sig Ty) (v : Ty.Contents (Elt F)) : HloOp τ sig (Elt F) := TRef.nullary y v
/-- An operation of one operand. -/
def op1 (x : TRef sig Tx) (y : TRef sig Ty) (f : Tx.Contents (Elt F) → Ty.Contents (Elt F)) : HloOp τ sig (Elt F) := TRef.unary x y f
/-- An operation of two operands. -/
def op2 (a : TRef sig Ta) (b : TRef sig Tb) (y : TRef sig Ty)
    (f : Ta.Contents (Elt F) → Tb.Contents (Elt F) → Ty.Contents (Elt F)) : HloOp τ sig (Elt F) := TRef.binary a b y f
/-- An operation of three operands. -/
def op3 (c : TRef sig Tc) (a : TRef sig Ta) (b : TRef sig Tb) (y : TRef sig Ty)
    (f : Tc.Contents (Elt F) → Ta.Contents (Elt F) → Tb.Contents (Elt F) → Ty.Contents (Elt F)) : HloOp τ sig (Elt F) :=
  TRef.ternary c a b y f

/-- The value that a typed reference's buffer holds. -/
def rd (t : TRef sig T) (V : Valuation τ sig (Elt F)) : T.Contents (Elt F) := t.ofBuf (V (Proc.devRef .tc t.ref))

theorem rd_op0 (y : TRef sig Ty) (v : Ty.Contents (Elt F)) (V) : rd y ((op0 y v).result V) = v := by
  unfold rd op0; rw [nullary_result]; exact TRef.ofBuf_toBuf _ _

theorem rd_op1 (x : TRef sig Tx) (y : TRef sig Ty) (f : Tx.Contents (Elt F) → Ty.Contents (Elt F)) (V) :
    rd y ((op1 x y f).result V) = f (rd x V) := by
  unfold rd op1; rw [unary_result]; exact TRef.ofBuf_toBuf _ _

theorem rd_op2 (a : TRef sig Ta) (b : TRef sig Tb) (y : TRef sig Ty)
    (f : Ta.Contents (Elt F) → Tb.Contents (Elt F) → Ty.Contents (Elt F)) (V) :
    rd y ((op2 a b y f).result V) = f (rd a V) (rd b V) := by
  unfold rd op2; rw [binary_result]; exact TRef.ofBuf_toBuf _ _

theorem rd_op3 (c : TRef sig Tc) (a : TRef sig Ta) (b : TRef sig Tb) (y : TRef sig Ty)
    (f : Tc.Contents (Elt F) → Ta.Contents (Elt F) → Tb.Contents (Elt F) → Ty.Contents (Elt F)) (V) :
    rd y ((op3 c a b y f).result V) = f (rd c V) (rd a V) (rd b V) := by
  unfold rd op3; rw [ternary_result]; exact TRef.ofBuf_toBuf _ _

/-- An operation that writes one buffer, read at another. -/
theorem rd_ne {t : TRef sig T} {y : TRef sig Ty} {op : HloOp τ sig (Elt F)} (V : Valuation τ sig (Elt F))
    (hw : op.writes = {Proc.devRef .tc y.ref}) (h : t.ref ≠ y.ref) : rd t (op.result V) = rd t V :=
  congrArg t.ofBuf (result_of_writes_ne op V y.ref t.ref hw h)

/-- Two different buffers of one field. -/
theorem cell_ne {k : Fin 26} {i j : Fin 27} {h h'} (hij : i ≠ j) : (cell k i Tx h).ref ≠ (cell k j Ty h').ref :=
  buf_ne (k := k) (i := j) fun e => hij (Fin.ext (Nat.add_left_cancel (show 3 + 27 * k.val + i.val = _ from e)))

theorem rd_op0_ne {k : Fin 26} {i j : Fin 27} {h h'} (hij : i ≠ j) (v : Ty.Contents (Elt F)) (V) :
    rd (cell k i T h) ((op0 (cell k j Ty h') v).result V) = rd (cell k i T h) V := rd_ne V rfl (cell_ne hij)

theorem rd_op1_ne {k : Fin 26} {i j : Fin 27} {h h'} (hij : i ≠ j) (x : TRef sig Tx)
    (f : Tx.Contents (Elt F) → Ty.Contents (Elt F)) (V) :
    rd (cell k i T h) ((op1 x (cell k j Ty h') f).result V) = rd (cell k i T h) V := rd_ne V rfl (cell_ne hij)

theorem rd_op2_ne {k : Fin 26} {i j : Fin 27} {h h'} (hij : i ≠ j) (a : TRef sig Ta) (b : TRef sig Tb)
    (f : Ta.Contents (Elt F) → Tb.Contents (Elt F) → Ty.Contents (Elt F)) (V) :
    rd (cell k i T h) ((op2 a b (cell k j Ty h') f).result V) = rd (cell k i T h) V := rd_ne V rfl (cell_ne hij)

theorem rd_op3_ne {k : Fin 26} {i j : Fin 27} {h h'} (hij : i ≠ j) (c : TRef sig Tc) (a : TRef sig Ta) (b : TRef sig Tb)
    (f : Tc.Contents (Elt F) → Ta.Contents (Elt F) → Tb.Contents (Elt F) → Ty.Contents (Elt F)) (V) :
    rd (cell k i T h) ((op3 c a b (cell k j Ty h') f).result V) = rd (cell k i T h) V := rd_ne V rfl (cell_ne hij)

/-- An operation that writes a field's buffer leaves every other as it was. -/
theorem arg_op1 {k : Fin 26} {j : Fin 27} {h'} {t : TRef sig T} (ht : place t.ref < 3) (x : TRef sig Tx)
    (f : Tx.Contents (Elt F) → Ty.Contents (Elt F)) (V) :
    rd t ((op1 x (cell k j Ty h') f).result V) = rd t V :=
  rd_ne V rfl (buf_ne (k := k) (i := j) (by omega))

end Steps

/-! ## The operations of one field -/

/-- The second argument, the words. -/
def wordsArg : TRef sig ⟨S4096x20x26, .i32⟩ := .of main_arg1
/-- The third argument, the tables. -/
def tablesArg : TRef sig ⟨S26x100000x16, .f32⟩ := .of main_arg2

/-- The buffers of field `k`'s lookup. -/
def takeBufs (k : Fin 26) : fn_take.Bufs where
  c := cell k 4 _ (kind_is rfl)
  v0 := cell k 5 _ (kind_is rfl)
  v1 := cell k 6 _ (kind_is rfl)
  c_0 := cell k 7 _ (kind_is rfl)
  v2 := cell k 8 _ (kind_is rfl)
  v3 := cell k 9 _ (kind_is rfl)
  call0 := { v0 := cell k 10 _ (kind_is rfl) }
  v5 := cell k 11 _ (kind_is rfl)
  c_1 := cell k 12 _ (kind_is rfl)
  c_2 := cell k 13 _ (kind_is rfl)
  v6 := cell k 14 _ (kind_is rfl)
  v7 := cell k 15 _ (kind_is rfl)
  v8 := cell k 16 _ (kind_is rfl)
  v9 := cell k 17 _ (kind_is rfl)
  v10 := cell k 18 _ (kind_is rfl)
  v11 := cell k 19 _ (kind_is rfl)
  c_3 := cell k 20 _ (kind_is rfl)
  v12 := cell k 21 _ (kind_is rfl)
  v13 := cell k 22 _ (kind_is rfl)
  v14 := cell k 23 _ (kind_is rfl)
  cst := cell k 24 _ (kind_is rfl)
  v15 := cell k 25 _ (kind_is rfl)
  v16 := cell k 26 _ (kind_is rfl)

/-- A lookup's operations, over its operands' buffers and its own. -/
def takeOps (w : TRef sig ⟨S100000x16, .f32⟩) (i : TRef sig ⟨S4096x20, .i32⟩) (φ : fn_take.Bufs) : List (HloOp τ sig (Elt F)) :=
  [op0 φ.c (constantI S_ 32 0#32),
   op1 φ.c φ.v0 (broadcastInDim S4096x20 ![] bcast_S_S4096x20),
   op2 i φ.v0 φ.v1 (cmpi .slt),
   op0 φ.c_0 (constantI S_ 32 100000#32),
   op1 φ.c_0 φ.v2 (broadcastInDim S4096x20 ![] bcast_S_S4096x20),
   op2 i φ.v2 φ.v3 addi,
   op3 φ.v1 φ.v3 i φ.call0.v0 select,
   op1 φ.call0.v0 φ.v5 (broadcastInDim S4096x20x1 ![0, 1] bcast_S4096x20_S4096x20x1_0_1),
   op0 φ.c_1 (constantI S1 32 99999#32),
   op0 φ.c_2 (constantI S_ 32 0#32),
   op1 φ.c_2 φ.v6 (broadcastInDim S4096x20x1 ![] bcast_S_S4096x20x1),
   op2 φ.v5 φ.v6 φ.v7 (cmpi .sge),
   op1 φ.c_1 φ.v8 (broadcastInDim S1x1x1 ![2] bcast_S1_S1x1x1_2),
   op1 φ.v8 φ.v9 (broadcastInDim S4096x20x1 ![0, 1, 2] bcast_S1x1x1_S4096x20x1_0_1_2),
   op2 φ.v5 φ.v9 φ.v10 (cmpi .sle),
   op2 φ.v7 φ.v10 φ.v11 andi,
   op0 φ.c_3 (constantI S_ 1 1#1),
   op2 φ.v11 φ.c_3 φ.v12 (fun x v => Host.reduce IntOp.andi x v reducesTo_S4096x20x1_S4096x20_d2 h_S_),
   op2 w φ.v5 φ.v13 (fun x i => Host.gather gather_S100000x16_S4096x20x1_S4096x20x16_2_0_n_n_0_2_116 x i),
   op1 φ.v12 φ.v14 (broadcastInDim S4096x20x16 ![0, 1] bcast_S4096x20_S4096x20x16_0_1),
   op0 φ.cst (constant S_ .f32 0x7FC00000#32),
   op1 φ.cst φ.v15 (broadcastInDim S4096x20x16 ![] bcast_S_S4096x20x16),
   op3 φ.v14 φ.v13 φ.v15 φ.v16 select]

/-- Cutting the words and the table of field `k` out of the arguments. -/
def cutOps (k : Fin 26) : List (HloOp τ sig (Elt F)) :=
  [op1 wordsArg (cell k 0 ⟨S4096x20x1, .i32⟩ (kind_is rfl)) (extractStridedSlice S4096x20x1 ![0, 0, k.val] · (wordSlices k)),
   op1 (cell k 0 ⟨S4096x20x1, .i32⟩ (kind_is rfl)) (cell k 1 ⟨S4096x20, .i32⟩ (kind_is rfl)) (shapeCast _ · shapeCasts_S4096x20x1_S4096x20),
   op1 tablesArg (cell k 2 ⟨S1x100000x16, .f32⟩ (kind_is rfl)) (extractStridedSlice S1x100000x16 ![k.val, 0, 0] · (tableSlices k)),
   op1 (cell k 2 ⟨S1x100000x16, .f32⟩ (kind_is rfl)) (cell k 3 ⟨S100000x16, .f32⟩ (kind_is rfl)) (shapeCast _ · shapeCasts_S1x100000x16_S100000x16)]

/-- The operations of field `k`. -/
def fieldOps (k : Fin 26) : List (HloOp τ sig (Elt F)) :=
  cutOps k ++ takeOps (cell k 3 _ (kind_is rfl)) (cell k 1 _ (kind_is rfl)) (takeBufs k)

set_option maxRecDepth 4096 in
theorem rd_after_field (k : Fin 26) (V : Valuation τ sig (Elt F)) :
    rd (cell k 26 ⟨S4096x20x16, .f32⟩ (kind_is rfl)) (after (fieldOps k) V) = field (rd wordsArg V) (rd tablesArg V) k := by
  have h1 : place wordsArg.ref < 3 := by decide
  have h2 : place tablesArg.ref < 3 := by decide
  simp (disch := first | decide | assumption) only [fieldOps, cutOps, takeOps, takeBufs, List.cons_append, List.nil_append, after_cons, after_nil,
    rd_op0, rd_op1, rd_op2, rd_op3, rd_op0_ne, rd_op1_ne, rd_op2_ne, rd_op3_ne, arg_op1]
  rfl

/-! ## What the operations of one field leave alone -/

/-- An operation that writes one of field `k`'s buffers and is decided by the buffers it reads. -/
def Plain (k : Fin 26) (op : HloOp τ sig (Elt F)) : Prop :=
  (∃ i, op.writes = {Proc.devRef .tc (buf k i)}) ∧ op.bufs ⊆ tcRefs τ sig ∧ op.fresh = ∅

section Plain

variable {Tx Ta Tb Tc Ty : BufTy} {k : Fin 26} {j : Fin 27} {h : kind j = Ty}

theorem plain_op0 (v : Ty.Contents (Elt F)) : Plain k (op0 (cell k j Ty h) v) :=
  ⟨⟨j, rfl⟩, by unfold op0; exact nullary_bufs_sub _ _ _, rfl⟩

theorem plain_op1 (x : TRef sig Tx) (f : Tx.Contents (Elt F) → Ty.Contents (Elt F)) : Plain k (op1 x (cell k j Ty h) f) :=
  ⟨⟨j, rfl⟩, by unfold op1; exact unary_bufs_sub _ _ _ _ _, rfl⟩

theorem plain_op2 (a : TRef sig Ta) (b : TRef sig Tb) (f : Ta.Contents (Elt F) → Tb.Contents (Elt F) → Ty.Contents (Elt F)) :
    Plain k (op2 a b (cell k j Ty h) f) :=
  ⟨⟨j, rfl⟩, by unfold op2; exact binary_bufs_sub _ _ _ _ _ _ _, rfl⟩

theorem plain_op3 (c : TRef sig Tc) (a : TRef sig Ta) (b : TRef sig Tb)
    (f : Tc.Contents (Elt F) → Ta.Contents (Elt F) → Tb.Contents (Elt F) → Ty.Contents (Elt F)) :
    Plain k (op3 c a b (cell k j Ty h) f) :=
  ⟨⟨j, rfl⟩, by unfold op3; exact ternary_bufs_sub _ _ _ _ _ _ _ _ _, rfl⟩

end Plain

theorem plain_field (k : Fin 26) : ∀ op ∈ fieldOps (F := F) k, Plain k op := by
  simp only [fieldOps, cutOps, takeOps, takeBufs, List.cons_append, List.nil_append, List.forall_mem_cons, List.not_mem_nil,
    plain_op0, plain_op1, plain_op2, plain_op3, true_and, false_imp_iff, implies_true]

/-- The operations of one field leave every buffer that is not the field's as it was. -/
theorem field_keeps (k : Fin 26) (V : Valuation τ sig (Elt F)) {r : Ref sig .tc}
    (hr : place r < 3 + 27 * k.val ∨ 30 + 27 * k.val ≤ place r) :
    after (fieldOps k) V (Proc.devRef .tc r) = V (Proc.devRef .tc r) := by
  refine after_of_forall_not_mem _ V fun op hop hb => ?_
  obtain ⟨⟨i, hi⟩, -⟩ := plain_field k op hop
  rw [hi, Finset.mem_singleton] at hb
  have := i.isLt
  exact buf_ne (k := k) (i := i) (by omega) (Proc.devRef_injective _ hb)

/-! ## All the fields -/

/-- The operations of the fields `ks`, one after the other, and then `rest`. -/
def line : List (Fin 26) → List (HloOp τ sig (Elt F)) → List (HloOp τ sig (Elt F))
  | [], rest => rest
  | k :: ks, rest => fieldOps k ++ line ks rest

theorem line_append (ks ks' : List (Fin 26)) (rest : List (HloOp τ sig (Elt F))) :
    line (ks ++ ks') rest = line ks [] ++ line ks' rest := by
  induction ks with
  | nil => rfl
  | cons k ks ih => simp only [List.cons_append, line, ih, List.append_assoc]

theorem line_nil (ks : List (Fin 26)) (rest : List (HloOp τ sig (Elt F))) : line ks rest = line ks [] ++ rest := by
  have := line_append ks [] rest
  rwa [List.append_nil] at this

/-- The result of field `k`'s lookup. -/
def found (k : Fin 26) : TRef sig ⟨S4096x20x16, .f32⟩ := (takeBufs k).v16

theorem rd_found (k : Fin 26) (V : Valuation τ sig (Elt F)) :
    rd (found k) (after (fieldOps k) V) = field (rd wordsArg V) (rd tablesArg V) k := rd_after_field k V

/-- The operations of some fields leave every buffer that is none of theirs as it was. -/
theorem line_keeps (ks : List (Fin 26)) (V : Valuation τ sig (Elt F)) {r : Ref sig .tc}
    (hr : ∀ k ∈ ks, place r < 3 + 27 * k.val ∨ 30 + 27 * k.val ≤ place r) :
    after (line ks []) V (Proc.devRef .tc r) = V (Proc.devRef .tc r) := by
  induction ks generalizing V with
  | nil => rfl
  | cons k ks ih =>
    rw [line, after_append, ih _ fun k' h => hr k' (List.mem_cons_of_mem _ h), field_keeps k V (hr k List.mem_cons_self)]

theorem rd_line_arg {T : BufTy} (ks : List (Fin 26)) (V : Valuation τ sig (Elt F)) (t : TRef sig T) (ht : place t.ref < 3) :
    rd t (after (line ks []) V) = rd t V := congrArg t.ofBuf (line_keeps ks V fun k _ => Or.inl (by omega))

/-- After the operations of some fields, each of these fields' results is its lookup in the arguments. -/
theorem rd_line {ks : List (Fin 26)} (hks : ks.Nodup) (V : Valuation τ sig (Elt F)) {k : Fin 26} (hk : k ∈ ks) :
    rd (found k) (after (line ks []) V) = field (rd wordsArg V) (rd tablesArg V) k := by
  induction ks generalizing V with
  | nil => exact absurd hk List.not_mem_nil
  | cons k' ks ih =>
    obtain ⟨hnot, hnd⟩ := List.nodup_cons.mp hks
    rw [line, after_append]
    have keeps {T : BufTy} (t : TRef sig T) (ht : place t.ref < 3) : rd t (after (fieldOps k') V) = rd t V :=
      congrArg t.ofBuf (field_keeps k' V (Or.inl (by omega)))
    rcases List.mem_cons.mp hk with rfl | hk
    · rw [← rd_found k V]
      refine congrArg (found k).ofBuf (line_keeps ks _ fun k' h => ?_)
      have hne : k'.val ≠ k.val := fun e => hnot (Fin.ext e ▸ h)
      show 3 + 27 * k.val + 26 < _ ∨ _ ≤ 3 + 27 * k.val + 26
      omega
    · rw [ih hnd _ hk, keeps _ (by decide), keeps _ (by decide)]

/-! ## The program as a line -/

/-- The first sixteen fields' results. -/
def firsts : Fin 16 → Ref sig .tc :=
  ![main_v4, main_v9, main_v14, main_v19, main_v24, main_v29, main_v34, main_v39, main_v44, main_v49, main_v54, main_v59, main_v64,
    main_v69, main_v74, main_v79]
/-- The last ten fields' results. -/
def lasts : Fin 10 → Ref sig .tc :=
  ![main_v84, main_v89, main_v94, main_v99, main_v104, main_v109, main_v114, main_v119, main_v124, main_v129]

theorem firsts_eq : ∀ n : Fin 16, firsts n = buf (early n) 26 := by decide +kernel
theorem lasts_eq : ∀ n : Fin 10, lasts n = buf (late n) 26 := by decide +kernel

/-- One of the results, as a reference to a value, its buffer given in another way. -/
def foundAt (k : Fin 26) (r : Ref sig .tc) (h : r = buf k 26) : TRef sig ⟨S4096x20x16, .f32⟩ :=
  ⟨r, h ▸ (found k).ty_eq, h ▸ (found k).on_device, h ▸ (found k).unscoped⟩

theorem foundAt_eq (k : Fin 26) (r : Ref sig .tc) (h : r = buf k 26) : foundAt k r h = found k := by
  subst h; rfl

/-- An operation of a family of operands. -/
def opN {n : Nat} {T Ty : BufTy} (xs : Fin n → TRef sig T) (y : TRef sig Ty) (f : (Fin n → T.Contents (Elt F)) → Ty.Contents (Elt F)) :
    HloOp τ sig (Elt F) := TRef.nary (Ts := fun _ => T) xs y f

theorem rd_opN {n : Nat} {T Ty : BufTy} (xs : Fin n → TRef sig T) (y : TRef sig Ty)
    (f : (Fin n → T.Contents (Elt F)) → Ty.Contents (Elt F)) (V) : rd y ((opN xs y f).result V) = f fun n => rd (xs n) V := by
  unfold rd opN; rw [nary_result]; exact TRef.ofBuf_toBuf _ _

/-- The first argument, the numeric features. -/
def numArg : TRef sig ⟨S4096x20x13, .f32⟩ := .of main_arg0
/-- The first sixteen lookups' values side by side. -/
def leftRef : TRef sig ⟨S4096x20x256, .f32⟩ := .of main_v130
/-- The last ten lookups' values side by side. -/
def rightRef : TRef sig ⟨S4096x20x160, .f32⟩ := .of main_v131
/-- All the lookups' values side by side. -/
def rowsRef : TRef sig ⟨S4096x20x416, .f32⟩ := .of main_v132
/-- The result. -/
def resRef : TRef sig ⟨S4096x20x429, .f32⟩ := .of main_v133

/-- The rest of the program: the lookups side by side, then the numeric features beside them. -/
def tailOps : List (HloOp τ sig (Elt F)) :=
  [opN (fun n => foundAt (early n) (firsts n) (firsts_eq n)) leftRef left,
   opN (fun n => foundAt (late n) (lasts n) (lasts_eq n)) rightRef right,
   op2 leftRef rightRef rowsRef both,
   op2 rowsRef numArg resRef beside]

theorem take_line (w : TRef sig ⟨S100000x16, .f32⟩) (i : TRef sig ⟨S4096x20, .i32⟩) (φ : fn_take.Bufs) :
    (fn_take.body w i φ : Line F) = seq (takeOps w i φ) := by
  unfold fn_take.body fn_where.body
  rfl

/-- The statements of field `k`, as the program has them. -/
theorem field_line (k : Fin 26) {p : Line F} {rest : List (HloOp τ sig (Elt F))} (hp : p = seq rest) :
    ((hlo rfl (op1 wordsArg (cell k 0 ⟨S4096x20x1, .i32⟩ (kind_is rfl)) (extractStridedSlice S4096x20x1 ![0, 0, k.val] · (wordSlices k))) fun _ => .ret ⟨⟩) >>= fun _ : PUnit =>
      (hlo rfl (op1 (cell k 0 ⟨S4096x20x1, .i32⟩ (kind_is rfl)) (cell k 1 ⟨S4096x20, .i32⟩ (kind_is rfl)) (shapeCast _ · shapeCasts_S4096x20x1_S4096x20)) fun _ => .ret ⟨⟩) >>= fun _ : PUnit =>
      (hlo rfl (op1 tablesArg (cell k 2 ⟨S1x100000x16, .f32⟩ (kind_is rfl)) (extractStridedSlice S1x100000x16 ![k.val, 0, 0] · (tableSlices k))) fun _ => .ret ⟨⟩) >>= fun _ : PUnit =>
      (hlo rfl (op1 (cell k 2 ⟨S1x100000x16, .f32⟩ (kind_is rfl)) (cell k 3 ⟨S100000x16, .f32⟩ (kind_is rfl)) (shapeCast _ · shapeCasts_S1x100000x16_S100000x16)) fun _ => .ret ⟨⟩) >>= fun _ : PUnit =>
      fn_take.body (cell k 3 _ (kind_is rfl)) (cell k 1 _ (kind_is rfl)) (takeBufs k) >>= fun _ => p : Line F)
      = seq (fieldOps k ++ rest) := by
  rw [fieldOps, List.append_assoc, hp, take_line, ← seq_append]
  rfl

theorem part0_line (d : Dev nD) : (main_part0 (F := F) d : Line F) = seq (line [0, 1, 2, 3, 4, 5, 6, 7, 8, 9, 10, 11] []) := by
  rw [← bind_pure (main_part0 (F := F) d)]
  unfold main_part0
  simp only [bind_assoc]
  exact field_line (F := F) 0 <| field_line (F := F) 1 <| field_line (F := F) 2 <| field_line (F := F) 3 <| field_line (F := F) 4 <| field_line (F := F) 5 <| field_line (F := F) 6 <| field_line (F := F) 7 <| field_line (F := F) 8 <| field_line (F := F) 9 <| field_line (F := F) 10 <| field_line (F := F) 11 <| rfl

theorem part1_line (d : Dev nD) : (main_part1 (F := F) d : Line F) = seq (line [12, 13, 14, 15, 16, 17, 18, 19, 20, 21, 22, 23] []) := by
  rw [← bind_pure (main_part1 (F := F) d)]
  unfold main_part1
  simp only [bind_assoc]
  exact field_line (F := F) 12 <| field_line (F := F) 13 <| field_line (F := F) 14 <| field_line (F := F) 15 <| field_line (F := F) 16 <| field_line (F := F) 17 <| field_line (F := F) 18 <| field_line (F := F) 19 <| field_line (F := F) 20 <| field_line (F := F) 21 <| field_line (F := F) 22 <| field_line (F := F) 23 <| rfl

theorem part2_line (d : Dev nD) : (main_part2 (F := F) d : Line F) = seq (line [24, 25] tailOps) := by
  unfold main_part2
  exact field_line (F := F) 24 <| field_line (F := F) 25 <| rfl

/-- The fields in order. -/
def fields : List (Fin 26) := [0, 1, 2, 3, 4, 5, 6, 7, 8, 9, 10, 11] ++ ([12, 13, 14, 15, 16, 17, 18, 19, 20, 21, 22, 23] ++ [24, 25])

theorem main_line (d : Dev nD) : (main (F := F) d : Line F) = seq (line fields [] ++ tailOps) := by
  rw [← line_nil, fields, line_append, line_append, seq_append, seq_append, ← part0_line d, ← part1_line d, ← part2_line d]
  rfl

/-! ## The run -/

theorem fields_nodup : fields.Nodup := by decide
theorem mem_fields : ∀ k : Fin 26, k ∈ fields := by decide

/-- The whole program's operations. -/
def ops : List (HloOp τ sig (Elt F)) := line fields [] ++ tailOps

/-- The operations after the lookups leave the fields' buffers and the arguments as they were. -/
theorem tail_keeps (V : Valuation τ sig (Elt F)) {r : Ref sig .tc} (hr : place r < 705) :
    after tailOps V (Proc.devRef .tc r) = V (Proc.devRef .tc r) := by
  refine after_of_writes_sub (W := [main_v130, main_v131, main_v132, main_v133]) _ V (forall_writes_sub_of_map rfl) fun h => ?_
  have key : ∀ r' ∈ [main_v130, main_v131, main_v132, main_v133], 705 ≤ place r' := by decide
  exact absurd (key r h) (by omega)

theorem ops_keeps (V : Valuation τ sig (Elt F)) {r : Ref sig .tc} (hr : place r < 3) :
    after ops V (Proc.devRef .tc r) = V (Proc.devRef .tc r) := by
  rw [ops, after_append, tail_keeps _ (by omega), line_keeps _ _ fun k _ => Or.inl (by omega)]

theorem rd_ops (V : Valuation τ sig (Elt F)) : rd resRef (after ops V) = result (rd numArg V) (rd wordsArg V) (rd tablesArg V) := by
  have hn := rd_line_arg fields V numArg (by decide)
  have hf (k : Fin 26) := rd_line fields_nodup V (mem_fields k)
  rw [ops, after_append]
  generalize after (line fields []) V = W at hn hf
  unfold tailOps
  simp only [after_cons, after_nil]
  rw [rd_op2, rd_op2, rd_ne (t := leftRef) (y := rightRef) _ rfl (by decide), rd_opN, rd_opN,
    rd_ne (t := numArg) (y := rowsRef) _ rfl (by decide), rd_ne (t := numArg) (y := rightRef) _ rfl (by decide),
    rd_ne (t := numArg) (y := leftRef) _ rfl (by decide), hn]
  simp only [foundAt_eq, hf]
  have hl (n : Fin 10) (f) : rd (found (late n)) ((opN (F := F) (fun n => found (early n)) leftRef f).result W) = field (rd wordsArg V) (rd tablesArg V) (late n) :=
    (rd_ne (y := leftRef) W rfl (by
      have h : ∀ k : Fin 26, (found k).ref ≠ leftRef.ref := by decide +kernel
      exact h _)).trans (hf _)
  simp only [hl]
  rfl

theorem line_plain (ks : List (Fin 26)) : ∀ op ∈ line (F := F) ks [], op.bufs ⊆ tcRefs τ sig ∧ op.fresh = ∅ := by
  induction ks with
  | nil => exact fun op h => absurd h List.not_mem_nil
  | cons k ks ih =>
    intro op h
    rcases List.mem_append.mp h with h | h
    · exact (plain_field k op h).2
    · exact ih op h

theorem ops_plain : ∀ op ∈ ops (F := F), op.bufs ⊆ tcRefs τ sig ∧ op.fresh = ∅ := by
  intro op h
  rcases List.mem_append.mp h with h | h
  · exact line_plain fields op h
  · simp only [tailOps, List.mem_cons, List.not_mem_nil, or_false] at h
    rcases h with rfl | rfl | rfl | rfl
    · exact ⟨by unfold opN; exact nary_bufs_sub _ _ _ _ _, rfl⟩
    · exact ⟨by unfold opN; exact nary_bufs_sub _ _ _ _ _, rfl⟩
    · exact ⟨by unfold op2; exact binary_bufs_sub _ _ _ _ _ _ _, rfl⟩
    · exact ⟨by unfold op2; exact binary_bufs_sub _ _ _ _ _ _ _, rfl⟩

/-- Every run of the reference ends, its result is `result` of its arguments, and its arguments are as they were. -/
theorem run_main (m : (ℓ : Loc nD τ sig) → Buf (Elt F) ℓ) (ρ : Dev nD → PrngReg) :
    θ_run (Cert.ReferenceIdeal.defs (F := F)) (onTc (τ := τ) (main (F := F))) ⟨m, fun _ => 0, ρ⟩ fun r => ∀ c : Dev nD,
      r.2.mem ((c.tc : Thread nD τ).loc main_v133)
          = result (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  refine (θ_run (Cert.ReferenceIdeal.defs (F := F)) _ _).mono (fun r h c => ⟨?_, ?_, ?_, ?_⟩)
    (run_hlo (Cert.ReferenceIdeal.defs (F := F)) (main (F := F)) (ops := ops) main_line (by decide) (by decide)
      (List.forall_iff_forall_mem.mpr fun op h => (ops_plain op h).1) (fun op h => (ops_plain op h).2) m ρ)
  · exact (h c main_v133).trans (rd_ops (launchContents m c))
  · exact (h c main_arg0).trans (ops_keeps _ (by decide))
  · exact (h c main_arg1).trans (ops_keeps _ (by decide))
  · exact (h c main_arg2).trans (ops_keeps _ (by decide))

end Cert.Proof.OfReference

end
-- ==== Proof.Equation.lean ====
/-
  The kernel's result is the reference's: the kernel's flat list of results, at place `429 (20 b + l) + j`, holds what the
  reference's result holds at `(b, l, j)`.
-/
module

public import proofs.«01_k».proof.Proof.Reference
public import proofs.«01_k».proof.Proof.Values

@[expose] public section

namespace Cert.Proof.Equation

open Idealize.ShloMosaic
open Idealize.ShloMosaic.ValueIdx (ix3 eq_ix3)
open Cert.Proof.Values (flatAt Tbl Cat Num)

variable {α : Type}

/-- The table list at row `100000 k + r` is table `k` at row `r`. -/
theorem tbl_apply (T : Cert.ReferenceIdeal.S26x100000x16.Idx → α) (h : Cert.ReferenceIdeal.S26x100000x16.ShapeCasts Tbl)
    (k : Fin 26) (r : Fin 100000) (e : Fin 16) {i j : ℕ} (hi : i = r.val + 100000 * k.val) (hj : j = e.val) :
    shapeCast Tbl T h (Values.ix2 2600000 16 i j) = T (ix3 k r e) := by
  unfold shapeCast
  rw [Shape.reshapeEquiv_eq_of_rowMajor (y := (ix3 k r e : Cert.ReferenceIdeal.S26x100000x16.Idx))]
  rw [Shape.rowMajor_val_three, Shape.rowMajor_val_two]
  rw [Values.ix2_val0 _ _ _ _ (by omega), Values.ix2_val1 _ _ _ _ (by omega)]
  show (k.val * 100000 + r.val) * 16 + e.val = i * 16 + j
  omega

/-- The list of words at `26 (20 b + l) + k` is word `(b, l, k)`. -/
theorem cat_apply (C : Cert.ReferenceIdeal.S4096x20x26.Idx → α) (h : Cert.ReferenceIdeal.S4096x20x26.ShapeCasts Cat)
    (b : Fin 4096) (l : Fin 20) (k : Fin 26) {i : ℕ} (hi : i = 26 * (20 * b.val + l.val) + k.val) :
    shapeCast Cat C h (Values.ix1 2129920 i) = C (ix3 b l k) := by
  unfold shapeCast
  rw [Shape.reshapeEquiv_eq_of_rowMajor (y := (ix3 b l k : Cert.ReferenceIdeal.S4096x20x26.Idx))]
  rw [Shape.rowMajor_val_three, Shape.rowMajor_val_one]
  rw [Values.ix1_val _ _ (by omega)]
  show (b.val * 20 + l.val) * 26 + k.val = i
  omega

/-- The list of numeric features at `13 (20 b + l) + e` is feature `(b, l, e)`. -/
theorem num_apply (X : Cert.ReferenceIdeal.S4096x20x13.Idx → α) (h : Cert.ReferenceIdeal.S4096x20x13.ShapeCasts Num)
    (b : Fin 4096) (l : Fin 20) (e : Fin 13) {i : ℕ} (hi : i = 13 * (20 * b.val + l.val) + e.val) :
    shapeCast Num X h (Values.ix1 1064960 i) = X (ix3 b l e) := by
  unfold shapeCast
  rw [Shape.reshapeEquiv_eq_of_rowMajor (y := (ix3 b l e : Cert.ReferenceIdeal.S4096x20x13.Idx))]
  rw [Shape.rowMajor_val_three, Shape.rowMajor_val_one]
  rw [Values.ix1_val _ _ (by omega)]
  show (b.val * 20 + l.val) * 13 + e.val = i
  omega

variable {F : FTy → Type} [FloatOps F]

/-- The flat list of results, at the result's shape, is the reference's result. -/
theorem flat_eq (X : Cert.ReferenceIdeal.S4096x20x13.Idx → F .f32) {C : Cert.ReferenceIdeal.S4096x20x26.Idx → BitVec 32}
    (hC : ∀ x, (C x).toNat < 100000) (T : Cert.ReferenceIdeal.S26x100000x16.Idx → F .f32) (hT hK hX)
    (h : (⟨1, ![35143680]⟩ : Shape).ShapeCasts Cert.ReferenceIdeal.S4096x20x429) :
    shapeCast Cert.ReferenceIdeal.S4096x20x429
        (fun x : (⟨1, ![35143680]⟩ : Shape).Idx => flatAt (shapeCast Tbl T hT) (shapeCast Cat C hK) (shapeCast Num X hX) (x 0).val) h
      = OfReference.result X C T := by
  funext x
  obtain ⟨b, l, j, rfl⟩ : ∃ (b : Fin 4096) (l : Fin 20) (j : Fin 429), x = ix3 b l j := ⟨x 0, x 1, x 2, eq_ix3 x⟩
  have e : Shape.reshapeEquiv h (ix3 b l j) = Values.ix1 35143680 (429 * (20 * b.val + l.val) + j.val) :=
    Shape.reshapeEquiv_eq_of_rowMajor _ (by
      rw [Shape.rowMajor_val_three, Shape.rowMajor_val_one, Values.ix1_val _ _ (by omega)]
      show _ = (b.val * 20 + l.val) * 429 + j.val
      omega)
  show flatAt _ _ _ ((Shape.reshapeEquiv h (ix3 b l j) 0).val) = _
  rw [e, Values.ix1_val _ _ (by omega)]
  have hd : (429 * (20 * b.val + l.val) + j.val) / 429 = 20 * b.val + l.val := by omega
  have hm : (429 * (20 * b.val + l.val) + j.val) % 429 = j.val := by omega
  unfold flatAt
  rw [hd, hm]
  by_cases hj : j.val < 416
  · rw [if_pos hj, OfReference.result_row X hC T b l j hj]
    refine tbl_apply T hT _ _ _ ?_ rfl
    exact congrArg (fun w : BitVec 32 => w.toNat + 100000 * (j.val / 16)) (cat_apply C hK b l ⟨j.val / 16, by omega⟩ rfl)
  · rw [if_neg hj, OfReference.result_num X C T b l j hj]
    exact num_apply X hX b l ⟨j.val - 416, by omega⟩ rfl

end Cert.Proof.Equation

end
-- ==== Proof.lean ====
/-
  The certificate of the embedding kernel: every run of it ends, with its arguments as they were and every semaphore
  counter at zero, at floating-point numbers (`Proof/Kernel`) and at extended reals (`Proof/KernelIdeal`); the same of the
  reference (`Proof/ReferenceRun`); and, at extended reals, the two results are equal (`Proof/Equation`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_vocabulary
public import proofs.«01_k».proof.Proof.Kernel.Launch
public import proofs.«01_k».proof.Proof.KernelIdeal.Launch
public import proofs.«01_k».proof.Proof.ReferenceRun
public import proofs.«01_k».proof.Proof.Equation
public import Idealize.ShloMosaic.Adequacy
public import Idealize.ShloMosaic.Init
public import Idealize.ShloMosaic.Lib.ReduceAll
public import Idealize.ShloMosaic.Lib.WordCmp
public import Idealize.ShloMosaic.Lib.Quiescent

@[expose] public section

noncomputable section

namespace Cert.Proof

open Idealize.ShloMosaic Idealize.SL.Sem

/-! ## What the precondition says -/

theorem scalar_eq (x y : Cert.Pre_in_vocabulary.S_.Idx) : x = y := funext fun a => a.elim0

/-- A signed word between 0 and 100000, as a natural number. -/
theorem toNat_lt {w : BitVec 32} (h0 : 0 ≤ w.toInt) (h1 : w.toInt < 100000) : w.toNat < 100000 := by
  rw [BitVec.toInt_eq_toNat_cond] at h0 h1
  have := w.isLt
  split at h0 <;> omega

/-- The precondition says of every word that it names an entry of its table. -/
theorem inside_of_pre {F : FTy → Type} [FloatOps F] (X : Cert.Pre_in_vocabulary.S4096x20x13.Idx → F .f32)
    (C : Cert.Pre_in_vocabulary.S4096x20x26.Idx → BitVec 32) (T : Cert.Pre_in_vocabulary.S26x100000x16.Idx → F .f32)
    (h : Cert.Pre_in_vocabulary.fn X C T = fun _ => 1#1) (x : Cert.Pre_in_vocabulary.S4096x20x26.Idx) : (C x).toNat < 100000 := by
  haveI : Subsingleton Cert.Pre_in_vocabulary.S_.Idx := ⟨scalar_eq⟩
  have hx := Host.reduce_andi_all _ _ _ _ (fun a => a.elim0 : Cert.Pre_in_vocabulary.S_.Idx) (congrFun h _) x
  have hx' : IntOp.andi (IntOp.cmpi .sge (C x) 0#32) (IntOp.cmpi .slt (C x) 100000#32) = 1#1 := hx
  obtain ⟨h0, h1⟩ := IntOp.andi_eq_one.mp hx'
  have h0' := IntOp.cmpi_sge.mp h0
  have h1' := IntOp.cmpi_slt.mp h1
  exact toNat_lt (by simpa using h0') (by simpa using h1')

theorem preOK_kernel {m} (h : Cert.Pre_Kernel m) : OfKernel.PreOK m := fun d x => inside_of_pre _ _ _ (h d) x

theorem preOK_kernelIdeal {m} (h : Cert.Pre_KernelIdeal m) : OfKernelIdeal.PreOK m := fun d x => inside_of_pre _ _ _ (h d) x

/-! ## The claims -/

theorem frame_kernel : Cert.quiescent_Kernel := fun m g h =>
  (θ_run (Cert.Kernel.defs (F := Bits)) _ _).mono (fun _ hr => ⟨fun c => (hr.1 c).2, hr.2⟩) (OfKernel.run_main m g (preOK_kernel h))

theorem frame_kernelIdeal : Cert.quiescent_KernelIdeal := fun m g h =>
  (θ_run (Cert.KernelIdeal.defs (F := Ideal)) _ _).mono (fun _ hr => ⟨fun c => (hr.1 c).2, hr.2⟩)
    (OfKernelIdeal.run_main m g (preOK_kernelIdeal h))

theorem frame_reference : Cert.quiescent_ReferenceIdeal := fun m g _ =>
  (θ_run (Cert.ReferenceIdeal.defs (F := Ideal)) _ _).mono
    (fun r hr => ⟨fun c => (hr c).2, sem_eq_zero_of_no_sems (by decide) r.2⟩) (OfReference.run_main m g)

theorem frame_reference_pre : Cert.quiescent_ReferenceIdeal_pre_in_vocabulary := fun m g _ => frame_reference m g trivial

/-- The kernel's result, of the launch contents, is the reference's. -/
theorem result_eq {m} (h : Cert.Pre_KernelIdeal m) (c : Dev Cert.KernelIdeal.nD) :
    OfReference.result (F := Ideal) (m (OfKernelIdeal.a0Loc c)) (m (OfKernelIdeal.a1Loc c)) (m (OfKernelIdeal.a2Loc c)) = OfKernelIdeal.outOf m c :=
  (Equation.flat_eq (F := Ideal) (m (OfKernelIdeal.a0Loc c)) (fun x => preOK_kernelIdeal h c x) (m (OfKernelIdeal.a2Loc c)) _ _ _ _).symm

theorem equal : Cert.algebraic_KernelIdeal_ReferenceIdeal := by
  intro m g m' g' h hargs
  refine ⟨fun c => OfKernelIdeal.outOf m c, ?_, ?_⟩
  · exact (θ_run (Cert.KernelIdeal.defs (F := Ideal)) _ _).mono (fun _ hr c => hr.1 c) (OfKernelIdeal.run_main m g (preOK_kernelIdeal h))
  · refine (θ_run (Cert.ReferenceIdeal.defs (F := Ideal)) _ _).mono (fun r hr c => ⟨(hr c).1.trans ?_, (hr c).2⟩) (OfReference.run_main m' g')
    obtain ⟨e0, e1, e2⟩ := hargs c
    rw [e0, e1, e2]
    exact result_eq h c

theorem claim : Cert.Claim :=
  ⟨Cert.Kernel.Gen.facts, Cert.KernelIdeal.Gen.facts, Cert.ReferenceIdeal.Gen.facts, Cert.Pre_in_vocabulary.Gen.facts,
    frame_kernel, frame_kernelIdeal, frame_reference, frame_reference_pre, trivial, equal⟩

end Cert.Proof

end
